-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v16)) (v4 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_v23) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x4x4096 : Shape := ⟨3, ![64, 4, 4096]⟩
abbrev S64x4x2x128 : Shape := ⟨4, ![64, 4, 2, 128]⟩
abbrev S64x16384x2x128 : Shape := ⟨4, ![64, 16384, 2, 128]⟩
abbrev S64x16384x2 : Shape := ⟨3, ![64, 16384, 2]⟩
abbrev S64x4x2x16x128 : Shape := ⟨5, ![64, 4, 2, 16, 128]⟩
abbrev S64x2x4x16x128 : Shape := ⟨5, ![64, 2, 4, 16, 128]⟩
abbrev S64x2x64x128 : Shape := ⟨4, ![64, 2, 64, 128]⟩
abbrev S64x2x4x128 : Shape := ⟨4, ![64, 2, 4, 128]⟩
abbrev S64x2x16384x128 : Shape := ⟨4, ![64, 2, 16384, 128]⟩
abbrev S64x2x16384 : Shape := ⟨3, ![64, 2, 16384]⟩
abbrev S64x2x4x1 : Shape := ⟨4, ![64, 2, 4, 1]⟩
abbrev S1x2x64x128 : Shape := ⟨4, ![1, 2, 64, 128]⟩
abbrev S1x2x4x128 : Shape := ⟨4, ![1, 2, 4, 128]⟩
abbrev S1x2x4096x128 : Shape := ⟨4, ![1, 2, 4096, 128]⟩
abbrev S1x2x4096 : Shape := ⟨3, ![1, 2, 4096]⟩
abbrev S1x2x4x1 : Shape := ⟨4, ![1, 2, 4, 1]⟩
abbrev S2x64x1 : Shape := ⟨3, ![2, 64, 1]⟩
abbrev S2x64x128 : Shape := ⟨3, ![2, 64, 128]⟩
abbrev S1x1x64x128 : Shape := ⟨4, ![1, 1, 64, 128]⟩
abbrev S64x128 : Shape := ⟨2, ![64, 128]⟩
abbrev S1x1x512 : Shape := ⟨3, ![1, 1, 512]⟩
abbrev S512 : Shape := ⟨1, ![512]⟩
abbrev S512x1 : Shape := ⟨2, ![512, 1]⟩
abbrev S1x1x512x128 : Shape := ⟨4, ![1, 1, 512, 128]⟩
abbrev S512x128 : Shape := ⟨2, ![512, 128]⟩
abbrev S64x512 : Shape := ⟨2, ![64, 512]⟩
abbrev S1x64x1 : Shape := ⟨3, ![1, 64, 1]⟩
abbrev S64x1 : Shape := ⟨2, ![64, 1]⟩
abbrev S64 : Shape := ⟨1, ![64]⟩
abbrev S1x64x128 : Shape := ⟨3, ![1, 64, 128]⟩
abbrev S64x4 : Shape := ⟨2, ![64, 4]⟩
abbrev S1x1x4x128 : Shape := ⟨4, ![1, 1, 4, 128]⟩
abbrev S4x128 : Shape := ⟨2, ![4, 128]⟩
abbrev S4 : Shape := ⟨1, ![4]⟩
abbrev S4x1 : Shape := ⟨2, ![4, 1]⟩
abbrev S1x1x4x1 : Shape := ⟨4, ![1, 1, 4, 1]⟩
abbrev S64x2x4 : Shape := ⟨3, ![64, 2, 4]⟩
abbrev S64x4x2 : Shape := ⟨3, ![64, 4, 2]⟩

abbrev nBuf : Space → Nat
  | .hbm => 30
  | .vmem => 27
  | .smem => 0
  | _ => 0

abbrev bufTy : (tb : Table) → Fin (tcTables nBuf tb) → BufTy
  | .hbm, ⟨0, _⟩ => ⟨S64x4x4096, .bf16⟩
  | .hbm, ⟨1, _⟩ => ⟨S64x4x2x128, .bf16⟩
  | .hbm, ⟨2, _⟩ => ⟨S64x4x2x128, .bf16⟩
  | .hbm, ⟨3, _⟩ => ⟨S64x16384x2x128, .i8⟩
  | .hbm, ⟨4, _⟩ => ⟨S64x16384x2, .f32⟩
  | .hbm, ⟨5, _⟩ => ⟨S64x16384x2x128, .i8⟩
  | .hbm, ⟨6, _⟩ => ⟨S64x16384x2, .f32⟩
  | .hbm, ⟨7, _⟩ => ⟨S64x4x2x16x128, .bf16⟩
  | .hbm, ⟨8, _⟩ => ⟨S64x2x4x16x128, .bf16⟩
  | .hbm, ⟨9, _⟩ => ⟨S64x2x64x128, .bf16⟩
  | .hbm, ⟨10, _⟩ => ⟨S64x2x4x128, .bf16⟩
  | .hbm, ⟨11, _⟩ => ⟨S64x2x4x128, .bf16⟩
  | .hbm, ⟨12, _⟩ => ⟨S64x2x16384x128, .i8⟩
  | .hbm, ⟨13, _⟩ => ⟨S64x2x16384, .f32⟩
  | .hbm, ⟨14, _⟩ => ⟨S64x2x16384x128, .i8⟩
  | .hbm, ⟨15, _⟩ => ⟨S64x2x16384, .f32⟩
  | .hbm, ⟨16, _⟩ => ⟨S64x2x64x128, .bf16⟩
  | .hbm, ⟨17, _⟩ => ⟨S64x2x4x128, .i8⟩
  | .hbm, ⟨18, _⟩ => ⟨S64x2x4x1, .f32⟩
  | .hbm, ⟨19, _⟩ => ⟨S64x2x4x128, .i8⟩
  | .hbm, ⟨20, _⟩ => ⟨S64x2x4x1, .f32⟩
  | .hbm, ⟨21, _⟩ => ⟨S64x2x4x16x128, .bf16⟩
  | .hbm, ⟨22, _⟩ => ⟨S64x4x2x16x128, .bf16⟩
  | .hbm, ⟨23, _⟩ => ⟨S64x4x4096, .bf16⟩
  | .hbm, ⟨24, _⟩ => ⟨S64x4x2x128, .i8⟩
  | .hbm, ⟨25, _⟩ => ⟨S64x2x4, .f32⟩
  | .hbm, ⟨26, _⟩ => ⟨S64x4x2, .f32⟩
  | .hbm, ⟨27, _⟩ => ⟨S64x4x2x128, .i8⟩
  | .hbm, ⟨28, _⟩ => ⟨S64x2x4, .f32⟩
  | .hbm, ⟨29, _⟩ => ⟨S64x4x2, .f32⟩
  | .local _ .vmem, ⟨0, _⟩ => ⟨S1x2x64x128, .bf16⟩
  | .local _ .vmem, ⟨1, _⟩ => ⟨S1x2x64x128, .bf16⟩
  | .local _ .vmem, ⟨2, _⟩ => ⟨S1x2x4x128, .bf16⟩
  | .local _ .vmem, ⟨3, _⟩ => ⟨S1x2x4x128, .bf16⟩
  | .local _ .vmem, ⟨4, _⟩ => ⟨S1x2x4x128, .bf16⟩
  | .local _ .vmem, ⟨5, _⟩ => ⟨S1x2x4x128, .bf16⟩
  | .local _ .vmem, ⟨6, _⟩ => ⟨S1x2x4096x128, .i8⟩
  | .local _ .vmem, ⟨7, _⟩ => ⟨S1x2x4096x128, .i8⟩
  | .local _ .vmem, ⟨8, _⟩ => ⟨S1x2x4096, .f32⟩
  | .local _ .vmem, ⟨9, _⟩ => ⟨S1x2x4096, .f32⟩
  | .local _ .vmem, ⟨10, _⟩ => ⟨S1x2x4096x128, .i8⟩
  | .local _ .vmem, ⟨11, _⟩ => ⟨S1x2x4096x128, .i8⟩
  | .local _ .vmem, ⟨12, _⟩ => ⟨S1x2x4096, .f32⟩
  | .local _ .vmem, ⟨13, _⟩ => ⟨S1x2x4096, .f32⟩
  | .local _ .vmem, ⟨14, _⟩ => ⟨S1x2x64x128, .bf16⟩
  | .local _ .vmem, ⟨15, _⟩ => ⟨S1x2x64x128, .bf16⟩
  | .local _ .vmem, ⟨16, _⟩ => ⟨S1x2x4x128, .i8⟩
  | .local _ .vmem, ⟨17, _⟩ => ⟨S1x2x4x128, .i8⟩
  | .local _ .vmem, ⟨18, _⟩ => ⟨S1x2x4x1, .f32⟩
  | .local _ .vmem, ⟨19, _⟩ => ⟨S1x2x4x1, .f32⟩
  | .local _ .vmem, ⟨20, _⟩ => ⟨S1x2x4x128, .i8⟩
  | .local _ .vmem, ⟨21, _⟩ => ⟨S1x2x4x128, .i8⟩
  | .local _ .vmem, ⟨22, _⟩ => ⟨S1x2x4x1, .f32⟩
  | .local _ .vmem, ⟨23, _⟩ => ⟨S1x2x4x1, .f32⟩
  | .local _ .vmem, ⟨24, _⟩ => ⟨S2x64x1, .f32⟩
  | .local _ .vmem, ⟨25, _⟩ => ⟨S2x64x1, .f32⟩
  | .local _ .vmem, ⟨26, _⟩ => ⟨S2x64x128, .f32⟩
  | _, _ => ⟨S64x4x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v855 : BitVec 1 := Scalar.cmpi .eq arg1 c3_i32
  let v856 : BitVec 32 := Scalar.extui v855
  let c0_i32_591 : BitVec 32 := 0#32
  let v857 : BitVec 1 := Scalar.cmpi .ne v856 c0_i32_591
  v857

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x4x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x4x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x4096x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x4096x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x64x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x4x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x4x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x4x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x4x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S64x4x4096 : Shape := ⟨3, ![64, 4, 4096]⟩
abbrev S64x4x2x128 : Shape := ⟨4, ![64, 4, 2, 128]⟩
abbrev S64x16384x2x128 : Shape := ⟨4, ![64, 16384, 2, 128]⟩
abbrev S64x16384x2 : Shape := ⟨3, ![64, 16384, 2]⟩
abbrev S64x4x2x16x128 : Shape := ⟨5, ![64, 4, 2, 16, 128]⟩
abbrev S_ : Shape := ⟨0, ![]⟩
abbrev S64x4x2 : Shape := ⟨3, ![64, 4, 2]⟩
abbrev S64x4x2x1 : Shape := ⟨4, ![64, 4, 2, 1]⟩
abbrev S64x16384x2x1 : Shape := ⟨4, ![64, 16384, 2, 1]⟩
abbrev S64x16388x2x128 : Shape := ⟨4, ![64, 16388, 2, 128]⟩
abbrev S64x2x16388x4x16 : Shape := ⟨5, ![64, 2, 16388, 4, 16]⟩
abbrev S64x2x16x4x16388 : Shape := ⟨5, ![64, 2, 16, 4, 16388]⟩
abbrev S64x2x16x4 : Shape := ⟨4, ![64, 2, 16, 4]⟩
abbrev S64x2x16x4x1 : Shape := ⟨5, ![64, 2, 16, 4, 1]⟩
abbrev S64x2x16x4x128 : Shape := ⟨5, ![64, 2, 16, 4, 128]⟩

abbrev nBuf : Space → Nat
  | .hbm => 121
  | .vmem => 0
  | .smem => 0
  | _ => 0

abbrev bufTy : (tb : Table) → Fin (tcTables nBuf tb) → BufTy
  | .hbm, ⟨0, _⟩ => ⟨S64x4x4096, .bf16⟩
  | .hbm, ⟨1, _⟩ => ⟨S64x4x2x128, .bf16⟩
  | .hbm, ⟨2, _⟩ => ⟨S64x4x2x128, .bf16⟩
  | .hbm, ⟨3, _⟩ => ⟨S64x16384x2x128, .i8⟩
  | .hbm, ⟨4, _⟩ => ⟨S64x16384x2, .f32⟩
  | .hbm, ⟨5, _⟩ => ⟨S64x16384x2x128, .i8⟩
  | .hbm, ⟨6, _⟩ => ⟨S64x16384x2, .f32⟩
  | .hbm, ⟨7, _⟩ => ⟨S64x4x2x16x128, .bf16⟩
  | .hbm, ⟨8, _⟩ => ⟨S64x4x2x128, .f32⟩
  | .hbm, ⟨9, _⟩ => ⟨S64x4x2x128, .f32⟩
  | .hbm, ⟨10, _⟩ => ⟨S_, .f32⟩
  | .hbm, ⟨11, _⟩ => ⟨S64x4x2, .f32⟩
  | .hbm, ⟨12, _⟩ => ⟨S_, .f32⟩
  | .hbm, ⟨13, _⟩ => ⟨S64x4x2, .f32⟩
  | .hbm, ⟨14, _⟩ => ⟨S64x4x2, .i1⟩
  | .hbm, ⟨15, _⟩ => ⟨S_, .f32⟩
  | .hbm, ⟨16, _⟩ => ⟨S64x4x2, .f32⟩
  | .hbm, ⟨17, _⟩ => ⟨S64x4x2, .f32⟩
  | .hbm, ⟨18, _⟩ => ⟨S_, .f32⟩
  | .hbm, ⟨19, _⟩ => ⟨S_, .f32⟩
  | .hbm, ⟨20, _⟩ => ⟨S64x4x2, .f32⟩
  | .hbm, ⟨21, _⟩ => ⟨S64x4x2, .f32⟩
  | .hbm, ⟨22, _⟩ => ⟨S64x4x2x1, .f32⟩
  | .hbm, ⟨23, _⟩ => ⟨S64x4x2x128, .f32⟩
  | .hbm, ⟨24, _⟩ => ⟨S64x4x2x128, .f32⟩
  | .hbm, ⟨25, _⟩ => ⟨S64x4x2x128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S64x4x2x128, .f32⟩
  | .hbm, ⟨30, _⟩ => ⟨S64x4x2x128, .f32⟩
  | .hbm, ⟨31, _⟩ => ⟨S_, .f32⟩
  | .hbm, ⟨32, _⟩ => ⟨S64x4x2x128, .f32⟩
  | .hbm, ⟨33, _⟩ => ⟨S64x4x2x128, .f32⟩
  | .hbm, ⟨34, _⟩ => ⟨S64x4x2x128, .i32⟩
  | .hbm, ⟨35, _⟩ => ⟨S64x4x2x128, .i8⟩
  | .hbm, ⟨36, _⟩ => ⟨S64x4x2x128, .f32⟩
  | .hbm, ⟨37, _⟩ => ⟨S64x4x2x128, .f32⟩
  | .hbm, ⟨38, _⟩ => ⟨S_, .f32⟩
  | .hbm, ⟨39, _⟩ => ⟨S64x4x2, .f32⟩
  | .hbm, ⟨40, _⟩ => ⟨S_, .f32⟩
  | .hbm, ⟨41, _⟩ => ⟨S64x4x2, .f32⟩
  | .hbm, ⟨42, _⟩ => ⟨S64x4x2, .i1⟩
  | .hbm, ⟨43, _⟩ => ⟨S_, .f32⟩
  | .hbm, ⟨44, _⟩ => ⟨S64x4x2, .f32⟩
  | .hbm, ⟨45, _⟩ => ⟨S64x4x2, .f32⟩
  | .hbm, ⟨46, _⟩ => ⟨S_, .f32⟩
  | .hbm, ⟨47, _⟩ => ⟨S_, .f32⟩
  | .hbm, ⟨48, _⟩ => ⟨S64x4x2, .f32⟩
  | .hbm, ⟨49, _⟩ => ⟨S64x4x2, .f32⟩
  | .hbm, ⟨50, _⟩ => ⟨S64x4x2x1, .f32⟩
  | .hbm, ⟨51, _⟩ => ⟨S64x4x2x128, .f32⟩
  | .hbm, ⟨52, _⟩ => ⟨S64x4x2x128, .f32⟩
  | .hbm, ⟨53, _⟩ => ⟨S64x4x2x128, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S64x4x2x128, .f32⟩
  | .hbm, ⟨58, _⟩ => ⟨S64x4x2x128, .f32⟩
  | .hbm, ⟨59, _⟩ => ⟨S_, .f32⟩
  | .hbm, ⟨60, _⟩ => ⟨S64x4x2x128, .f32⟩
  | .hbm, ⟨61, _⟩ => ⟨S64x4x2x128, .f32⟩
  | .hbm, ⟨62, _⟩ => ⟨S64x4x2x128, .i32⟩
  | .hbm, ⟨63, _⟩ => ⟨S64x4x2x128, .i8⟩
  | .hbm, ⟨64, _⟩ => ⟨S64x16384x2x128, .i32⟩
  | .hbm, ⟨65, _⟩ => ⟨S64x16384x2x128, .bf16⟩
  | .hbm, ⟨66, _⟩ => ⟨S64x16384x2, .bf16⟩
  | .hbm, ⟨67, _⟩ => ⟨S64x16384x2x1, .bf16⟩
  | .hbm, ⟨68, _⟩ => ⟨S64x16384x2x128, .bf16⟩
  | .hbm, ⟨69, _⟩ => ⟨S64x16384x2x128, .bf16⟩
  | .hbm, ⟨70, _⟩ => ⟨S64x16384x2x128, .i32⟩
  | .hbm, ⟨71, _⟩ => ⟨S64x16384x2x128, .bf16⟩
  | .hbm, ⟨72, _⟩ => ⟨S64x16384x2, .bf16⟩
  | .hbm, ⟨73, _⟩ => ⟨S64x16384x2x1, .bf16⟩
  | .hbm, ⟨74, _⟩ => ⟨S64x16384x2x128, .bf16⟩
  | .hbm, ⟨75, _⟩ => ⟨S64x16384x2x128, .bf16⟩
  | .hbm, ⟨76, _⟩ => ⟨S64x4x2x128, .i32⟩
  | .hbm, ⟨77, _⟩ => ⟨S64x4x2x128, .bf16⟩
  | .hbm, ⟨78, _⟩ => ⟨S64x4x2, .bf16⟩
  | .hbm, ⟨79, _⟩ => ⟨S64x4x2x1, .bf16⟩
  | .hbm, ⟨80, _⟩ => ⟨S64x4x2x128, .bf16⟩
  | .hbm, ⟨81, _⟩ => ⟨S64x4x2x128, .bf16⟩
  | .hbm, ⟨82, _⟩ => ⟨S64x16388x2x128, .bf16⟩
  | .hbm, ⟨83, _⟩ => ⟨S64x4x2x128, .i32⟩
  | .hbm, ⟨84, _⟩ => ⟨S64x4x2x128, .bf16⟩
  | .hbm, ⟨85, _⟩ => ⟨S64x4x2, .bf16⟩
  | .hbm, ⟨86, _⟩ => ⟨S64x4x2x1, .bf16⟩
  | .hbm, ⟨87, _⟩ => ⟨S64x4x2x128, .bf16⟩
  | .hbm, ⟨88, _⟩ => ⟨S64x4x2x128, .bf16⟩
  | .hbm, ⟨89, _⟩ => ⟨S64x16388x2x128, .bf16⟩
  | .hbm, ⟨90, _⟩ => ⟨S64x2x16388x4x16, .f32⟩
  | .hbm, ⟨91, _⟩ => ⟨S64x2x16x4x16388, .f32⟩
  | .hbm, ⟨92, _⟩ => ⟨S_, .f32⟩
  | .hbm, ⟨93, _⟩ => ⟨S64x2x16x4x16388, .f32⟩
  | .hbm, ⟨94, _⟩ => ⟨S64x2x16x4x16388, .f32⟩
  | .hbm, ⟨95, _⟩ => ⟨S64x2x16x4x16388, .i32⟩
  | .hbm, ⟨96, _⟩ => ⟨S64x2x16x4x16388, .i32⟩
  | .hbm, ⟨97, _⟩ => ⟨S_, .i32⟩
  | .hbm, ⟨98, _⟩ => ⟨S64x2x16x4x16388, .i32⟩
  | .hbm, ⟨99, _⟩ => ⟨S64x2x16x4x16388, .i32⟩
  | .hbm, ⟨100, _⟩ => ⟨S64x2x16x4x16388, .i1⟩
  | .hbm, ⟨101, _⟩ => ⟨S_, .f32⟩
  | .hbm, ⟨102, _⟩ => ⟨S_, .f32⟩
  | .hbm, ⟨103, _⟩ => ⟨S64x2x16x4x16388, .f32⟩
  | .hbm, ⟨104, _⟩ => ⟨S64x2x16x4x16388, .f32⟩
  | .hbm, ⟨105, _⟩ => ⟨S_, .f32⟩
  | .hbm, ⟨106, _⟩ => ⟨S64x2x16x4, .f32⟩
  | .hbm, ⟨107, _⟩ => ⟨S64x2x16x4x1, .f32⟩
  | .hbm, ⟨108, _⟩ => ⟨S64x2x16x4x16388, .f32⟩
  | .hbm, ⟨109, _⟩ => ⟨S64x2x16x4x16388, .f32⟩
  | .hbm, ⟨110, _⟩ => ⟨S64x2x16x4x16388, .f32⟩
  | .hbm, ⟨111, _⟩ => ⟨S_, .f32⟩
  | .hbm, ⟨112, _⟩ => ⟨S64x2x16x4, .f32⟩
  | .hbm, ⟨113, _⟩ => ⟨S64x2x16x4x16388, .bf16⟩
  | .hbm, ⟨114, _⟩ => ⟨S64x2x16x4x128, .f32⟩
  | .hbm, ⟨115, _⟩ => ⟨S64x2x16x4x1, .f32⟩
  | .hbm, ⟨116, _⟩ => ⟨S64x2x16x4x128, .f32⟩
  | .hbm, ⟨117, _⟩ => ⟨S64x2x16x4x128, .f32⟩
  | .hbm, ⟨118, _⟩ => ⟨S64x4x2x16x128, .f32⟩
  | .hbm, ⟨119, _⟩ => ⟨S64x4x4096, .f32⟩
  | .hbm, ⟨120, _⟩ => ⟨S64x4x4096, .bf16⟩
  | _, _ => ⟨S64x4x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_cst_4 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_cst_6 : Ref sig .tc := ⟨.hbm, 40, rfl⟩
abbrev main_v19 : Ref sig .tc := ⟨.hbm, 41, rfl⟩
abbrev main_v20 : Ref sig .tc := ⟨.hbm, 42, rfl⟩
abbrev main_cst_7 : Ref sig .tc := ⟨.hbm, 43, rfl⟩
abbrev main_v21 : Ref sig .tc := ⟨.hbm, 44, rfl⟩
abbrev main_v22 : Ref sig .tc := ⟨.hbm, 45, rfl⟩
abbrev main_cst_8 : Ref sig .tc := ⟨.hbm, 46, rfl⟩
abbrev main_call3_v0 : Ref sig .tc := ⟨.hbm, 47, rfl⟩
abbrev main_call3_v1 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_9 : Ref sig .tc := ⟨.hbm, 54, rfl⟩
abbrev main_cst_10 : Ref sig .tc := ⟨.hbm, 55, rfl⟩
abbrev main_call5_v0 : Ref sig .tc := ⟨.hbm, 56, rfl⟩
abbrev main_call5_v1 : Ref sig .tc := ⟨.hbm, 57, rfl⟩
abbrev main_call5_v2 : Ref sig .tc := ⟨.hbm, 58, rfl⟩
abbrev main_call5_v3 : Ref sig .tc := ⟨.hbm, 59, rfl⟩
abbrev main_call5_v4 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_12 : Ref sig .tc := ⟨.hbm, 101, rfl⟩
abbrev main_call6_v0 : Ref sig .tc := ⟨.hbm, 102, rfl⟩
abbrev main_call6_v1 : Ref sig .tc := ⟨.hbm, 103, rfl⟩
abbrev main_v66 : Ref sig .tc := ⟨.hbm, 104, rfl⟩
abbrev main_cst_13 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_14 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩

abbrev nD : Nat := 1
abbrev τ : Topo := Topo.v7x

variable {F : FTy → Type} [FloatOps F]
-- ==== Proof.Entry.lean ====
module
public import proofs.«01_k».proof.Proof.Gen.KernelIdeal.Frame
public import Idealize.ShloMosaic.Lib.Pipeline.Value
public import Idealize.ShloMosaic.Lib.Pipeline.ValueKit
public import Idealize.ShloMosaic.Lib.Pointwise
@[expose] public section

set_option maxRecDepth 16384

noncomputable section

namespace Cert.KernelIdeal.Entry

open Idealize.ShloMosaic Idealize.ShloMosaic.TcCoe Cert.KernelIdeal Cert.KernelIdeal.Gen

variable (m : (ℓ : Loc nD τ sig) → Buf (Elt Ideal) ℓ) (c : Dev nD)

/-- The block each input window reads at a point: the batch element is the point over four, the block of cached
    tokens is the point's remainder. -/
theorem idx_in : ∀ t : Fin cfg0.N,
    win0_0.index t = ![t.val / 4, 0, 0, 0] ∧ win0_1.index t = ![t.val / 4, 0, 0, 0] ∧ win0_2.index t = ![t.val / 4, 0, 0, 0]
    ∧ win0_3.index t = ![t.val / 4, 0, t.val % 4, 0] ∧ win0_4.index t = ![t.val / 4, 0, t.val % 4]
    ∧ win0_5.index t = ![t.val / 4, 0, t.val % 4, 0] ∧ win0_6.index t = ![t.val / 4, 0, t.val % 4] :=
  (by decide +kernel : ∀ t : Fin grid0.N, _)

/-- The block each output window writes at a point. -/
theorem idx_out : ∀ t : Fin cfg0.N,
    win0_7.index t = ![t.val / 4, 0, 0, 0] ∧ win0_8.index t = ![t.val / 4, 0, 0, 0] ∧ win0_9.index t = ![t.val / 4, 0, 0, 0]
    ∧ win0_10.index t = ![t.val / 4, 0, 0, 0] ∧ win0_11.index t = ![t.val / 4, 0, 0, 0] :=
  (by decide +kernel : ∀ t : Fin grid0.N, _)

/-- The cached key codes as the region finds them: heads before tokens. -/
theorem A5 : V m c main_v5 = transpose S64x2x16384x128 [0, 2, 1, 3] (m ((c : Thread nD τ).loc main_arg3)) transposes_S64x16384x2x128_S64x2x16384x128_0_2_1_3 := by
  show StableHlo.after hostOps0 (fun b => m (c, b)) (Proc.devRef .tc main_v5) = _
  after_results

/-- The cached key codes as the region finds them, at an index. -/
theorem V5 (b : Fin 64) (h : Fin 2) (u : Fin 16384) (d : Fin 128) :
    V m c main_v5 (ix4 b h u d) = m ((c : Thread nD τ).loc main_arg3) (ix4 b u h d) := by
  rw [A5]
  generalize m ((c : Thread nD τ).loc main_arg3) = X
  pointwise

/-- The cached key scales as the region finds them: heads before tokens. -/
theorem A6 : V m c main_v6 = transpose S64x2x16384 [0, 2, 1] (m ((c : Thread nD τ).loc main_arg4)) transposes_S64x16384x2_S64x2x16384_0_2_1 := by
  show StableHlo.after hostOps0 (fun b => m (c, b)) (Proc.devRef .tc main_v6) = _
  after_results

/-- The cached key scales as the region finds them, at an index. -/
theorem V6 (b : Fin 64) (h : Fin 2) (u : Fin 16384) :
    V m c main_v6 (ix3 b h u) = m ((c : Thread nD τ).loc main_arg4) (ix3 b u h) := by
  rw [A6]
  generalize m ((c : Thread nD τ).loc main_arg4) = X
  pointwise

/-- The cached value codes as the region finds them: heads before tokens. -/
theorem A7 : V m c main_v7 = transpose S64x2x16384x128 [0, 2, 1, 3] (m ((c : Thread nD τ).loc main_arg5)) transposes_S64x16384x2x128_S64x2x16384x128_0_2_1_3 := by
  show StableHlo.after hostOps0 (fun b => m (c, b)) (Proc.devRef .tc main_v7) = _
  after_results

/-- The cached value codes as the region finds them, at an index. -/
theorem V7 (b : Fin 64) (h : Fin 2) (u : Fin 16384) (d : Fin 128) :
    V m c main_v7 (ix4 b h u d) = m ((c : Thread nD τ).loc main_arg5) (ix4 b u h d) := by
  rw [A7]
  generalize m ((c : Thread nD τ).loc main_arg5) = X
  pointwise

/-- The cached value scales as the region finds them: heads before tokens. -/
theorem A8 : V m c main_v8 = transpose S64x2x16384 [0, 2, 1] (m ((c : Thread nD τ).loc main_arg6)) transposes_S64x16384x2_S64x2x16384_0_2_1 := by
  show StableHlo.after hostOps0 (fun b => m (c, b)) (Proc.devRef .tc main_v8) = _
  after_results

/-- The cached value scales as the region finds them, at an index. -/
theorem V8 (b : Fin 64) (h : Fin 2) (u : Fin 16384) :
    V m c main_v8 (ix3 b h u) = m ((c : Thread nD τ).loc main_arg6) (ix3 b u h) := by
  rw [A8]
  generalize m ((c : Thread nD τ).loc main_arg6) = X
  pointwise

/-- The new keys as the region finds them: heads before tokens. -/
theorem A3 : V m c main_v3 = transpose S64x2x4x128 [0, 2, 1, 3] (m ((c : Thread nD τ).loc main_arg1)) transposes_S64x4x2x128_S64x2x4x128_0_2_1_3 := by
  show StableHlo.after hostOps0 (fun b => m (c, b)) (Proc.devRef .tc main_v3) = _
  after_results

/-- The new keys as the region finds them, at an index. -/
theorem V3 (b : Fin 64) (h : Fin 2) (u : Fin 4) (d : Fin 128) :
    V m c main_v3 (ix4 b h u d) = m ((c : Thread nD τ).loc main_arg1) (ix4 b u h d) := by
  rw [A3]
  generalize m ((c : Thread nD τ).loc main_arg1) = X
  pointwise

/-- The new values as the region finds them: heads before tokens. -/
theorem A4 : V m c main_v4 = transpose S64x2x4x128 [0, 2, 1, 3] (m ((c : Thread nD τ).loc main_arg2)) transposes_S64x4x2x128_S64x2x4x128_0_2_1_3 := by
  show StableHlo.after hostOps0 (fun b => m (c, b)) (Proc.devRef .tc main_v4) = _
  after_results

/-- The new values as the region finds them, at an index. -/
theorem V4 (b : Fin 64) (h : Fin 2) (u : Fin 4) (d : Fin 128) :
    V m c main_v4 (ix4 b h u d) = m ((c : Thread nD τ).loc main_arg2) (ix4 b u h d) := by
  rw [A4]
  generalize m ((c : Thread nD τ).loc main_arg2) = X
  pointwise

/-- The queries as the region finds them: a row for each position and group. -/
theorem A2 : V m c main_v2 = shapeCast S64x2x64x128 (transpose S64x2x4x16x128 [0, 2, 1, 3, 4]
    (shapeCast S64x4x2x16x128 (m ((c : Thread nD τ).loc main_arg0)) shapeCasts_S64x4x4096_S64x4x2x16x128)
    transposes_S64x4x2x16x128_S64x2x4x16x128_0_2_1_3_4) shapeCasts_S64x2x4x16x128_S64x2x64x128 := by
  show StableHlo.after hostOps0 (fun b => m (c, b)) (Proc.devRef .tc main_v2) = _
  after_results
  rfl

/-- The queries as the region finds them, at an index. -/
theorem V2 (b : Fin 64) (h : Fin 2) (r : Fin 64) (d : Fin 128) :
    V m c main_v2 (ix4 b h r d) = m ((c : Thread nD τ).loc main_arg0)
      (ix3 b ⟨r.val / 16, by omega⟩ ⟨h.val * 2048 + (r.val % 16) * 128 + d.val, by omega⟩) := by
  rw [A2]
  generalize m ((c : Thread nD τ).loc main_arg0) = X
  pointwise

/-- The batch element a point works on. -/
abbrev bt (t : Fin cfg0.N) : Fin 64 := ⟨t.val / 4, by have : t.val < 256 := lt_of_lt_of_eq t.isLt N_0; omega⟩

/-- The cached token at a place of the block a point reads. -/
abbrev tk (t : Fin cfg0.N) (u : Fin 4096) : Fin 16384 := ⟨4096 * (t.val % 4) + u.val, by omega⟩

/-- A point's block of cached key codes. -/
theorem iblk3 (t : Fin cfg0.N) (h : Fin 2) (u : Fin 4096) (d : Fin 128) :
    iblk m c 3 t (ix4 0 h u d) = m ((c : Thread nD τ).loc main_arg3) (ix4 (bt t) (tk t u) h d) := by
  refine Eq.trans ?_ (V5 m c _ _ _ _)
  blk_ext [iblk, idx_in t]

/-- A point's block of cached value codes. -/
theorem iblk5 (t : Fin cfg0.N) (h : Fin 2) (u : Fin 4096) (d : Fin 128) :
    iblk m c 5 t (ix4 0 h u d) = m ((c : Thread nD τ).loc main_arg5) (ix4 (bt t) (tk t u) h d) := by
  refine Eq.trans ?_ (V7 m c _ _ _ _)
  blk_ext [iblk, idx_in t]

/-- A point's block of cached key scales. -/
theorem iblk4 (t : Fin cfg0.N) (h : Fin 2) (u : Fin 4096) :
    iblk m c 4 t (ix3 0 h u) = m ((c : Thread nD τ).loc main_arg4) (ix3 (bt t) (tk t u) h) := by
  refine Eq.trans ?_ (V6 m c _ _ _)
  blk_ext [iblk, idx_in t]

/-- A point's block of cached value scales. -/
theorem iblk6 (t : Fin cfg0.N) (h : Fin 2) (u : Fin 4096) :
    iblk m c 6 t (ix3 0 h u) = m ((c : Thread nD τ).loc main_arg6) (ix3 (bt t) (tk t u) h) := by
  refine Eq.trans ?_ (V8 m c _ _ _)
  blk_ext [iblk, idx_in t]

/-- A point's block of new keys. -/
theorem iblk1 (t : Fin cfg0.N) (h : Fin 2) (s : Fin 4) (d : Fin 128) :
    iblk m c 1 t (ix4 0 h s d) = m ((c : Thread nD τ).loc main_arg1) (ix4 (bt t) s h d) := by
  refine Eq.trans ?_ (V3 m c _ _ _ _)
  blk_ext [iblk, idx_in t]

/-- A point's block of new values. -/
theorem iblk2 (t : Fin cfg0.N) (h : Fin 2) (s : Fin 4) (d : Fin 128) :
    iblk m c 2 t (ix4 0 h s d) = m ((c : Thread nD τ).loc main_arg2) (ix4 (bt t) s h d) := by
  refine Eq.trans ?_ (V4 m c _ _ _ _)
  blk_ext [iblk, idx_in t]

/-- A point's block of queries. -/
theorem iblk0 (t : Fin cfg0.N) (h : Fin 2) (r : Fin 64) (d : Fin 128) :
    iblk m c 0 t (ix4 0 h r d) = m ((c : Thread nD τ).loc main_arg0)
      (ix3 (bt t) ⟨r.val / 16, by omega⟩ ⟨h.val * 2048 + (r.val % 16) * 128 + d.val, by omega⟩) := by
  refine Eq.trans ?_ (V2 m c _ _ _ _)
  blk_ext [iblk, idx_in t]

end Cert.KernelIdeal.Entry

end
-- ==== Proof.Chunk.lean ====
module
public import proofs.«01_k».proof.Proof.Gen.KernelIdeal.Skeleton
public import Idealize.ShloMosaic.Lib.Pipeline.FrameBody
public import Idealize.ShloMosaic.Lib.Pipeline.ReadBack
@[expose] public section

set_option maxRecDepth 16384

noncomputable section

namespace Cert.KernelIdeal.Chunk

open Idealize.ShloMosaic Cert.KernelIdeal Cert.KernelIdeal.Gen

variable {F : FTy → Type} [FloatOps F]

/-- Head `h`'s rows of the query block. -/
def Q (x0 : Vec F S1x2x64x128 .bf16) (h : ℕ) : Vec F S1x1x64x128 .bf16 :=
  View.ld x0 (Rect.unit ![0, h % 2, 0, 0] S1x1x64x128.size (by
    have := Nat.mod_lt h (show 0 < 2 by decide)
    intro a; fin_cases a <;> simp [S1x1x64x128, S1x2x64x128] <;> omega))

/-- Head `h`'s codes of chunk `k` in a block of cached codes. -/
def KC (x3 : Vec F S1x2x4096x128 .i8) (h k : ℕ) : Vec F S1x1x512x128 .i8 :=
  View.ld x3 (Rect.unit ![0, h % 2, 512 * (k % 8), 0] S1x1x512x128.size (by
    have := Nat.mod_lt h (show 0 < 2 by decide)
    have := Nat.mod_lt k (show 0 < 8 by decide)
    intro a; fin_cases a <;> simp [S1x1x512x128, S1x2x4096x128] <;> omega))

/-- Head `h`'s scales of chunk `k` in a block of cached scales. -/
def KS (x4 : Vec F S1x2x4096 .f32) (h k : ℕ) : Vec F S1x1x512 .f32 :=
  View.ld x4 (Rect.unit ![0, h % 2, 512 * (k % 8)] S1x1x512.size (by
    have := Nat.mod_lt h (show 0 < 2 by decide)
    have := Nat.mod_lt k (show 0 < 8 by decide)
    intro a; fin_cases a <;> simp [S1x1x512, S1x2x4096] <;> omega))

/-- Head `h`'s part of a carried column (the running maximum or the running denominator). -/
def M1 (xs : Vec F S2x64x1 .f32) (h : ℕ) : Vec F S1x64x1 .f32 :=
  View.ld xs (Rect.unit ![h % 2, 0, 0] S1x64x1.size (by
    have := Nat.mod_lt h (show 0 < 2 by decide)
    intro a; fin_cases a <;> simp [S1x64x1, S2x64x1] <;> omega))

/-- Head `h`'s part of the carried accumulator. -/
def A1 (xs : Vec F S2x64x128 .f32) (h : ℕ) : Vec F S1x64x128 .f32 :=
  View.ld xs (Rect.unit ![h % 2, 0, 0] S1x64x128.size (by
    have := Nat.mod_lt h (show 0 < 2 by decide)
    intro a; fin_cases a <;> simp [S1x64x128, S2x64x128] <;> omega))

/-- The running maximum after one chunk of keys. -/
def mN (q : Vec F S1x1x64x128 .bf16) (ks : Vec F S1x1x512 .f32) (kc : Vec F S1x1x512x128 .i8)
    (m : Vec F S1x64x1 .f32) : Vec F S1x64x1 .f32 := k0_pay61 (k0_pay56 q ks kc m)

/-- The running denominator after one chunk of keys. -/
def lN (q : Vec F S1x1x64x128 .bf16) (ks : Vec F S1x1x512 .f32) (kc : Vec F S1x1x512x128 .i8)
    (m l : Vec F S1x64x1 .f32) : Vec F S1x64x1 .f32 :=
  k0_pay59 (k0_pay54 q ks kc) (k0_pay55 m) (k0_pay56 q ks kc m) l

/-- The running weighted sum after one chunk of keys and values. -/
def aN (q : Vec F S1x1x64x128 .bf16) (ks : Vec F S1x1x512 .f32) (kc : Vec F S1x1x512x128 .i8)
    (vs : Vec F S1x1x512 .f32) (vc : Vec F S1x1x512x128 .i8)
    (m : Vec F S1x64x1 .f32) (a : Vec F S1x64x128 .f32) : Vec F S1x64x128 .f32 :=
  k0_pay60 (k0_pay53 vs vc) (k0_pay54 q ks kc) (k0_pay55 m) (k0_pay56 q ks kc m) a

/-- The running maximum of head `h` after the first `k` chunks of a block. -/
def mC (x0 : Vec F S1x2x64x128 .bf16) (x3 : Vec F S1x2x4096x128 .i8) (x4 : Vec F S1x2x4096 .f32)
    (h : ℕ) (m : Vec F S1x64x1 .f32) : ℕ → Vec F S1x64x1 .f32
  | 0 => m
  | k + 1 => mN (Q x0 h) (KS x4 h k) (KC x3 h k) (mC x0 x3 x4 h m k)

/-- The running denominator of head `h` after the first `k` chunks of a block. -/
def lC (x0 : Vec F S1x2x64x128 .bf16) (x3 : Vec F S1x2x4096x128 .i8) (x4 : Vec F S1x2x4096 .f32)
    (h : ℕ) (m l : Vec F S1x64x1 .f32) : ℕ → Vec F S1x64x1 .f32
  | 0 => l
  | k + 1 => lN (Q x0 h) (KS x4 h k) (KC x3 h k) (mC x0 x3 x4 h m k) (lC x0 x3 x4 h m l k)

/-- The running weighted sum of head `h` after the first `k` chunks of a block. -/
def aC (x0 : Vec F S1x2x64x128 .bf16) (x3 : Vec F S1x2x4096x128 .i8) (x4 : Vec F S1x2x4096 .f32)
    (x5 : Vec F S1x2x4096x128 .i8) (x6 : Vec F S1x2x4096 .f32)
    (h : ℕ) (m : Vec F S1x64x1 .f32) (a : Vec F S1x64x128 .f32) : ℕ → Vec F S1x64x128 .f32
  | 0 => a
  | k + 1 => aN (Q x0 h) (KS x4 h k) (KC x3 h k) (KS x6 h k) (KC x5 h k) (mC x0 x3 x4 h m k)
      (aC x0 x3 x4 x5 x6 h m a k)

/-- One chunk of the body names the factors of its update apart from the others; it is the same
    update. -/
theorem aN_split (q : Vec F S1x1x64x128 .bf16) (ks : Vec F S1x1x512 .f32) (kc : Vec F S1x1x512x128 .i8)
    (vs : Vec F S1x1x512 .f32) (vc : Vec F S1x1x512x128 .i8)
    (m : Vec F S1x64x1 .f32) (a : Vec F S1x64x128 .f32) :
    k0_pay142 (k0_pay138 (k0_pay131 q) (k0_pay132 ks) kc m)
      (k0_pay140 (k0_pay131 q) (k0_pay132 ks) (k0_pay133 vs) kc vc m) (k0_pay141 a)
      = aN q ks kc vs vc m a := by
  unfold k0_pay142 k0_pay140 k0_pay141 k0_pay138 aN k0_pay60
  have h1 : k0_pay136 (k0_pay131 q) (k0_pay132 ks) kc m = k0_pay56 q ks kc m := rfl
  have h2 : k0_pay137 (k0_pay131 q) (k0_pay132 ks) kc m
      = k0_pay57 (k0_pay54 q ks kc) (k0_pay56 q ks kc m) := rfl
  rw [h1, h2]
  rfl

end Cert.KernelIdeal.Chunk

end
-- ==== Proof.BodyA.lean ====
module
public import proofs.«01_k».proof.Proof.Gen.KernelIdeal.Frame
public import proofs.«01_k».proof.Proof.Chunk
@[expose] public section

set_option maxRecDepth 16384
set_option maxHeartbeats 2000000

noncomputable section

namespace Cert.KernelIdeal.BodyA

open Idealize.ShloMosaic Idealize.ShloMosaic.TcCoe Idealize.ShloMosaic.Tactic
open Cert.KernelIdeal Cert.KernelIdeal.Gen Cert.KernelIdeal.Chunk

variable {F : FTy → Type} [FloatOps F]

variable (c : Dev nD) (i : grid0.Coords) (arg2 : Memref sig .tc .vmem S1x2x64x128 .bf16) (harg2 : arg2.IsWhole) (arg3 : Memref sig .tc .vmem S1x2x4x128 .bf16) (harg3 : arg3.IsWhole) (arg4 : Memref sig .tc .vmem S1x2x4x128 .bf16) (harg4 : arg4.IsWhole) (arg5 : Memref sig .tc .vmem S1x2x4096x128 .i8) (harg5 : arg5.IsWhole) (arg6 : Memref sig .tc .vmem S1x2x4096 .f32) (harg6 : arg6.IsWhole) (arg7 : Memref sig .tc .vmem S1x2x4096x128 .i8) (harg7 : arg7.IsWhole) (arg8 : Memref sig .tc .vmem S1x2x4096 .f32) (harg8 : arg8.IsWhole) (arg9 : Memref sig .tc .vmem S1x2x64x128 .bf16) (harg9 : arg9.IsWhole) (arg10 : Memref sig .tc .vmem S1x2x4x128 .i8) (harg10 : arg10.IsWhole) (arg11 : Memref sig .tc .vmem S1x2x4x1 .f32) (harg11 : arg11.IsWhole) (arg12 : Memref sig .tc .vmem S1x2x4x128 .i8) (harg12 : arg12.IsWhole) (arg13 : Memref sig .tc .vmem S1x2x4x1 .f32) (harg13 : arg13.IsWhole) (arg14 : Memref sig .tc .vmem S2x64x1 .f32) (harg14 : arg14.IsWhole) (arg15 : Memref sig .tc .vmem S2x64x1 .f32) (harg15 : arg15.IsWhole) (arg16 : Memref sig .tc .vmem S2x64x128 .f32) (harg16 : arg16.IsWhole)
  (hc0 : cond0_0 i) (hc1 : ¬cond0_1 i)
  (x0 : Vec F S1x2x64x128 .bf16) (x1 : Vec F S1x2x4x128 .bf16) (x2 : Vec F S1x2x4x128 .bf16) (x3 : Vec F S1x2x4096x128 .i8) (x4 : Vec F S1x2x4096 .f32) (x5 : Vec F S1x2x4096x128 .i8) (x6 : Vec F S1x2x4096 .f32)

/-- What head 0 loads as the running maximum after 0 chunks of the block. -/
theorem m_0_0 : kernelRun0_A.sl.v26 c arg14
    = mC (arg2.view.read (Elt F) (harg2.unread x0)) (arg5.view.read (Elt F) (harg5.unread x3)) (arg6.view.read (Elt F) (harg6.unread x4)) 0 (M1 k0_pay49 0) 0 :=
  View.readCov_fill _ _ _ _ _ (by decide)

/-- What head 0 loads as the running denominator after 0 chunks of the block. -/
theorem l_0_0 : kernelRun0_A.sl.v36 c arg15
    = lC (arg2.view.read (Elt F) (harg2.unread x0)) (arg5.view.read (Elt F) (harg5.unread x3)) (arg6.view.read (Elt F) (harg6.unread x4)) 0 (M1 k0_pay49 0) (M1 k0_pay50 0) 0 :=
  View.readCov_fill _ _ _ _ _ (by decide)

/-- What head 0 loads as the weighted sum after 0 chunks of the block. -/
theorem a_0_0 : kernelRun0_A.sl.v47 c arg16
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 k0_pay49 0) (A1 k0_pay51 0) 0 :=
  View.readCov_fill _ _ _ _ _ (by decide)

/-- What head 0 loads as the running maximum after 1 chunks of the block. -/
theorem m_0_1 : kernelRun0_A.sl.v79 c arg2 harg2 arg5 harg5 arg6 harg6 arg14 x0 x3 x4
    = mC (arg2.view.read (Elt F) (harg2.unread x0)) (arg5.view.read (Elt F) (harg5.unread x3)) (arg6.view.read (Elt F) (harg6.unread x4)) 0 (M1 k0_pay49 0) 1 :=
  (View.readCov_cons_toLoadRect _ _ _ _).trans (congrArg (mN (Q (arg2.view.read (Elt F) (harg2.unread x0)) 0) (KS (arg6.view.read (Elt F) (harg6.unread x4)) 0 0) (KC (arg5.view.read (Elt F) (harg5.unread x3)) 0 0)) (m_0_0 c arg2 harg2 arg5 harg5 arg6 harg6 arg14 x0 x3 x4))

/-- What head 0 loads as the running denominator after 1 chunks of the block. -/
theorem l_0_1 : kernelRun0_A.sl.v89 c arg2 harg2 arg5 harg5 arg6 harg6 arg14 arg15 x0 x3 x4
    = lC (arg2.view.read (Elt F) (harg2.unread x0)) (arg5.view.read (Elt F) (harg5.unread x3)) (arg6.view.read (Elt F) (harg6.unread x4)) 0 (M1 k0_pay49 0) (M1 k0_pay50 0) 1 :=
  (View.readCov_cons_toLoadRect _ _ _ _).trans (congrArg₂ (lN (Q (arg2.view.read (Elt F) (harg2.unread x0)) 0) (KS (arg6.view.read (Elt F) (harg6.unread x4)) 0 0) (KC (arg5.view.read (Elt F) (harg5.unread x3)) 0 0)) (m_0_0 c arg2 harg2 arg5 harg5 arg6 harg6 arg14 x0 x3 x4) (l_0_0 c arg2 harg2 arg5 harg5 arg6 harg6 arg15 x0 x3 x4))

/-- What head 0 loads as the weighted sum after 1 chunks of the block. -/
theorem a_0_1 : kernelRun0_A.sl.v100 c arg2 harg2 arg5 harg5 arg6 harg6 arg7 harg7 arg8 harg8 arg14 arg16 x0 x3 x4 x5 x6
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 k0_pay49 0) (A1 k0_pay51 0) 1 :=
  (View.readCov_cons_toLoadRect _ _ _ _).trans (congrArg₂ (aN (Q (arg2.view.read (Elt F) (harg2.unread x0)) 0) (KS (arg6.view.read (Elt F) (harg6.unread x4)) 0 0) (KC (arg5.view.read (Elt F) (harg5.unread x3)) 0 0) (KS (arg8.view.read (Elt F) (harg8.unread x6)) 0 0) (KC (arg7.view.read (Elt F) (harg7.unread x5)) 0 0)) (m_0_0 c arg2 harg2 arg5 harg5 arg6 harg6 arg14 x0 x3 x4) (a_0_0 c arg2 harg2 arg5 harg5 arg6 harg6 arg7 harg7 arg8 harg8 arg16 x0 x3 x4 x5 x6))

/-- What head 0 loads as the running maximum after 2 chunks of the block. -/
theorem m_0_2 : kernelRun0_A.sl.v132 c arg2 harg2 arg5 harg5 arg6 harg6 arg14 x0 x3 x4
    = mC (arg2.view.read (Elt F) (harg2.unread x0)) (arg5.view.read (Elt F) (harg5.unread x3)) (arg6.view.read (Elt F) (harg6.unread x4)) 0 (M1 k0_pay49 0) 2 :=
  (View.readCov_cons_toLoadRect _ _ _ _).trans (congrArg (mN (Q (arg2.view.read (Elt F) (harg2.unread x0)) 0) (KS (arg6.view.read (Elt F) (harg6.unread x4)) 0 1) (KC (arg5.view.read (Elt F) (harg5.unread x3)) 0 1)) (m_0_1 c arg2 harg2 arg5 harg5 arg6 harg6 arg14 x0 x3 x4))

/-- What head 0 loads as the running denominator after 2 chunks of the block. -/
theorem l_0_2 : kernelRun0_A.sl.v142 c arg2 harg2 arg5 harg5 arg6 harg6 arg14 arg15 x0 x3 x4
    = lC (arg2.view.read (Elt F) (harg2.unread x0)) (arg5.view.read (Elt F) (harg5.unread x3)) (arg6.view.read (Elt F) (harg6.unread x4)) 0 (M1 k0_pay49 0) (M1 k0_pay50 0) 2 :=
  (View.readCov_cons_toLoadRect _ _ _ _).trans (congrArg₂ (lN (Q (arg2.view.read (Elt F) (harg2.unread x0)) 0) (KS (arg6.view.read (Elt F) (harg6.unread x4)) 0 1) (KC (arg5.view.read (Elt F) (harg5.unread x3)) 0 1)) (m_0_1 c arg2 harg2 arg5 harg5 arg6 harg6 arg14 x0 x3 x4) (l_0_1 c arg2 harg2 arg5 harg5 arg6 harg6 arg14 arg15 x0 x3 x4))

/-- What head 0 loads as the weighted sum after 2 chunks of the block. -/
theorem a_0_2 : kernelRun0_A.sl.v153 c arg2 harg2 arg5 harg5 arg6 harg6 arg7 harg7 arg8 harg8 arg14 arg16 x0 x3 x4 x5 x6
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 k0_pay49 0) (A1 k0_pay51 0) 2 :=
  (View.readCov_cons_toLoadRect _ _ _ _).trans (congrArg₂ (aN (Q (arg2.view.read (Elt F) (harg2.unread x0)) 0) (KS (arg6.view.read (Elt F) (harg6.unread x4)) 0 1) (KC (arg5.view.read (Elt F) (harg5.unread x3)) 0 1) (KS (arg8.view.read (Elt F) (harg8.unread x6)) 0 1) (KC (arg7.view.read (Elt F) (harg7.unread x5)) 0 1)) (m_0_1 c arg2 harg2 arg5 harg5 arg6 harg6 arg14 x0 x3 x4) (a_0_1 c arg2 harg2 arg5 harg5 arg6 harg6 arg7 harg7 arg8 harg8 arg14 arg16 x0 x3 x4 x5 x6))

/-- What head 0 loads as the running maximum after 3 chunks of the block. -/
theorem m_0_3 : kernelRun0_A.sl.v185 c arg2 harg2 arg5 harg5 arg6 harg6 arg14 x0 x3 x4
    = mC (arg2.view.read (Elt F) (harg2.unread x0)) (arg5.view.read (Elt F) (harg5.unread x3)) (arg6.view.read (Elt F) (harg6.unread x4)) 0 (M1 k0_pay49 0) 3 :=
  (View.readCov_cons_toLoadRect _ _ _ _).trans (congrArg (mN (Q (arg2.view.read (Elt F) (harg2.unread x0)) 0) (KS (arg6.view.read (Elt F) (harg6.unread x4)) 0 2) (KC (arg5.view.read (Elt F) (harg5.unread x3)) 0 2)) (m_0_2 c arg2 harg2 arg5 harg5 arg6 harg6 arg14 x0 x3 x4))

/-- What head 0 loads as the running denominator after 3 chunks of the block. -/
theorem l_0_3 : kernelRun0_A.sl.v195 c arg2 harg2 arg5 harg5 arg6 harg6 arg14 arg15 x0 x3 x4
    = lC (arg2.view.read (Elt F) (harg2.unread x0)) (arg5.view.read (Elt F) (harg5.unread x3)) (arg6.view.read (Elt F) (harg6.unread x4)) 0 (M1 k0_pay49 0) (M1 k0_pay50 0) 3 :=
  (View.readCov_cons_toLoadRect _ _ _ _).trans (congrArg₂ (lN (Q (arg2.view.read (Elt F) (harg2.unread x0)) 0) (KS (arg6.view.read (Elt F) (harg6.unread x4)) 0 2) (KC (arg5.view.read (Elt F) (harg5.unread x3)) 0 2)) (m_0_2 c arg2 harg2 arg5 harg5 arg6 harg6 arg14 x0 x3 x4) (l_0_2 c arg2 harg2 arg5 harg5 arg6 harg6 arg14 arg15 x0 x3 x4))

/-- What head 0 loads as the weighted sum after 3 chunks of the block. -/
theorem a_0_3 : kernelRun0_A.sl.v206 c arg2 harg2 arg5 harg5 arg6 harg6 arg7 harg7 arg8 harg8 arg14 arg16 x0 x3 x4 x5 x6
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 k0_pay49 0) (A1 k0_pay51 0) 3 :=
  (View.readCov_cons_toLoadRect _ _ _ _).trans (congrArg₂ (aN (Q (arg2.view.read (Elt F) (harg2.unread x0)) 0) (KS (arg6.view.read (Elt F) (harg6.unread x4)) 0 2) (KC (arg5.view.read (Elt F) (harg5.unread x3)) 0 2) (KS (arg8.view.read (Elt F) (harg8.unread x6)) 0 2) (KC (arg7.view.read (Elt F) (harg7.unread x5)) 0 2)) (m_0_2 c arg2 harg2 arg5 harg5 arg6 harg6 arg14 x0 x3 x4) (a_0_2 c arg2 harg2 arg5 harg5 arg6 harg6 arg7 harg7 arg8 harg8 arg14 arg16 x0 x3 x4 x5 x6))

/-- What head 0 loads as the running maximum after 4 chunks of the block. -/
theorem m_0_4 : kernelRun0_A.sl.v238 c arg2 harg2 arg5 harg5 arg6 harg6 arg14 x0 x3 x4
    = mC (arg2.view.read (Elt F) (harg2.unread x0)) (arg5.view.read (Elt F) (harg5.unread x3)) (arg6.view.read (Elt F) (harg6.unread x4)) 0 (M1 k0_pay49 0) 4 :=
  (View.readCov_cons_toLoadRect _ _ _ _).trans (congrArg (mN (Q (arg2.view.read (Elt F) (harg2.unread x0)) 0) (KS (arg6.view.read (Elt F) (harg6.unread x4)) 0 3) (KC (arg5.view.read (Elt F) (harg5.unread x3)) 0 3)) (m_0_3 c arg2 harg2 arg5 harg5 arg6 harg6 arg14 x0 x3 x4))

/-- What head 0 loads as the running denominator after 4 chunks of the block. -/
theorem l_0_4 : kernelRun0_A.sl.v248 c arg2 harg2 arg5 harg5 arg6 harg6 arg14 arg15 x0 x3 x4
    = lC (arg2.view.read (Elt F) (harg2.unread x0)) (arg5.view.read (Elt F) (harg5.unread x3)) (arg6.view.read (Elt F) (harg6.unread x4)) 0 (M1 k0_pay49 0) (M1 k0_pay50 0) 4 :=
  (View.readCov_cons_toLoadRect _ _ _ _).trans (congrArg₂ (lN (Q (arg2.view.read (Elt F) (harg2.unread x0)) 0) (KS (arg6.view.read (Elt F) (harg6.unread x4)) 0 3) (KC (arg5.view.read (Elt F) (harg5.unread x3)) 0 3)) (m_0_3 c arg2 harg2 arg5 harg5 arg6 harg6 arg14 x0 x3 x4) (l_0_3 c arg2 harg2 arg5 harg5 arg6 harg6 arg14 arg15 x0 x3 x4))

/-- What head 0 loads as the weighted sum after 4 chunks of the block. -/
theorem a_0_4 : kernelRun0_A.sl.v259 c arg2 harg2 arg5 harg5 arg6 harg6 arg7 harg7 arg8 harg8 arg14 arg16 x0 x3 x4 x5 x6
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 k0_pay49 0) (A1 k0_pay51 0) 4 :=
  (View.readCov_cons_toLoadRect _ _ _ _).trans (congrArg₂ (aN (Q (arg2.view.read (Elt F) (harg2.unread x0)) 0) (KS (arg6.view.read (Elt F) (harg6.unread x4)) 0 3) (KC (arg5.view.read (Elt F) (harg5.unread x3)) 0 3) (KS (arg8.view.read (Elt F) (harg8.unread x6)) 0 3) (KC (arg7.view.read (Elt F) (harg7.unread x5)) 0 3)) (m_0_3 c arg2 harg2 arg5 harg5 arg6 harg6 arg14 x0 x3 x4) (a_0_3 c arg2 harg2 arg5 harg5 arg6 harg6 arg7 harg7 arg8 harg8 arg14 arg16 x0 x3 x4 x5 x6))

/-- What head 0 loads as the running maximum after 5 chunks of the block. -/
theorem m_0_5 : kernelRun0_A.sl.v291 c arg2 harg2 arg5 harg5 arg6 harg6 arg14 x0 x3 x4
    = mC (arg2.view.read (Elt F) (harg2.unread x0)) (arg5.view.read (Elt F) (harg5.unread x3)) (arg6.view.read (Elt F) (harg6.unread x4)) 0 (M1 k0_pay49 0) 5 :=
  (View.readCov_cons_toLoadRect _ _ _ _).trans (congrArg (mN (Q (arg2.view.read (Elt F) (harg2.unread x0)) 0) (KS (arg6.view.read (Elt F) (harg6.unread x4)) 0 4) (KC (arg5.view.read (Elt F) (harg5.unread x3)) 0 4)) (m_0_4 c arg2 harg2 arg5 harg5 arg6 harg6 arg14 x0 x3 x4))

/-- What head 0 loads as the running denominator after 5 chunks of the block. -/
theorem l_0_5 : kernelRun0_A.sl.v301 c arg2 harg2 arg5 harg5 arg6 harg6 arg14 arg15 x0 x3 x4
    = lC (arg2.view.read (Elt F) (harg2.unread x0)) (arg5.view.read (Elt F) (harg5.unread x3)) (arg6.view.read (Elt F) (harg6.unread x4)) 0 (M1 k0_pay49 0) (M1 k0_pay50 0) 5 :=
  (View.readCov_cons_toLoadRect _ _ _ _).trans (congrArg₂ (lN (Q (arg2.view.read (Elt F) (harg2.unread x0)) 0) (KS (arg6.view.read (Elt F) (harg6.unread x4)) 0 4) (KC (arg5.view.read (Elt F) (harg5.unread x3)) 0 4)) (m_0_4 c arg2 harg2 arg5 harg5 arg6 harg6 arg14 x0 x3 x4) (l_0_4 c arg2 harg2 arg5 harg5 arg6 harg6 arg14 arg15 x0 x3 x4))

/-- What head 0 loads as the weighted sum after 5 chunks of the block. -/
theorem a_0_5 : kernelRun0_A.sl.v312 c arg2 harg2 arg5 harg5 arg6 harg6 arg7 harg7 arg8 harg8 arg14 arg16 x0 x3 x4 x5 x6
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 k0_pay49 0) (A1 k0_pay51 0) 5 :=
  (View.readCov_cons_toLoadRect _ _ _ _).trans (congrArg₂ (aN (Q (arg2.view.read (Elt F) (harg2.unread x0)) 0) (KS (arg6.view.read (Elt F) (harg6.unread x4)) 0 4) (KC (arg5.view.read (Elt F) (harg5.unread x3)) 0 4) (KS (arg8.view.read (Elt F) (harg8.unread x6)) 0 4) (KC (arg7.view.read (Elt F) (harg7.unread x5)) 0 4)) (m_0_4 c arg2 harg2 arg5 harg5 arg6 harg6 arg14 x0 x3 x4) (a_0_4 c arg2 harg2 arg5 harg5 arg6 harg6 arg7 harg7 arg8 harg8 arg14 arg16 x0 x3 x4 x5 x6))

/-- What head 0 loads as the running maximum after 6 chunks of the block. -/
theorem m_0_6 : kernelRun0_A.sl.v344 c arg2 harg2 arg5 harg5 arg6 harg6 arg14 x0 x3 x4
    = mC (arg2.view.read (Elt F) (harg2.unread x0)) (arg5.view.read (Elt F) (harg5.unread x3)) (arg6.view.read (Elt F) (harg6.unread x4)) 0 (M1 k0_pay49 0) 6 :=
  (View.readCov_cons_toLoadRect _ _ _ _).trans (congrArg (mN (Q (arg2.view.read (Elt F) (harg2.unread x0)) 0) (KS (arg6.view.read (Elt F) (harg6.unread x4)) 0 5) (KC (arg5.view.read (Elt F) (harg5.unread x3)) 0 5)) (m_0_5 c arg2 harg2 arg5 harg5 arg6 harg6 arg14 x0 x3 x4))

/-- What head 0 loads as the running denominator after 6 chunks of the block. -/
theorem l_0_6 : kernelRun0_A.sl.v354 c arg2 harg2 arg5 harg5 arg6 harg6 arg14 arg15 x0 x3 x4
    = lC (arg2.view.read (Elt F) (harg2.unread x0)) (arg5.view.read (Elt F) (harg5.unread x3)) (arg6.view.read (Elt F) (harg6.unread x4)) 0 (M1 k0_pay49 0) (M1 k0_pay50 0) 6 :=
  (View.readCov_cons_toLoadRect _ _ _ _).trans (congrArg₂ (lN (Q (arg2.view.read (Elt F) (harg2.unread x0)) 0) (KS (arg6.view.read (Elt F) (harg6.unread x4)) 0 5) (KC (arg5.view.read (Elt F) (harg5.unread x3)) 0 5)) (m_0_5 c arg2 harg2 arg5 harg5 arg6 harg6 arg14 x0 x3 x4) (l_0_5 c arg2 harg2 arg5 harg5 arg6 harg6 arg14 arg15 x0 x3 x4))

/-- What head 0 loads as the weighted sum after 6 chunks of the block. -/
theorem a_0_6 : kernelRun0_A.sl.v365 c arg2 harg2 arg5 harg5 arg6 harg6 arg7 harg7 arg8 harg8 arg14 arg16 x0 x3 x4 x5 x6
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 k0_pay49 0) (A1 k0_pay51 0) 6 :=
  (View.readCov_cons_toLoadRect _ _ _ _).trans (congrArg₂ (aN (Q (arg2.view.read (Elt F) (harg2.unread x0)) 0) (KS (arg6.view.read (Elt F) (harg6.unread x4)) 0 5) (KC (arg5.view.read (Elt F) (harg5.unread x3)) 0 5) (KS (arg8.view.read (Elt F) (harg8.unread x6)) 0 5) (KC (arg7.view.read (Elt F) (harg7.unread x5)) 0 5)) (m_0_5 c arg2 harg2 arg5 harg5 arg6 harg6 arg14 x0 x3 x4) (a_0_5 c arg2 harg2 arg5 harg5 arg6 harg6 arg7 harg7 arg8 harg8 arg14 arg16 x0 x3 x4 x5 x6))

/-- What head 0 loads as the running maximum after 7 chunks of the block. -/
theorem m_0_7 : kernelRun0_A.sl.v397 c arg2 harg2 arg5 harg5 arg6 harg6 arg14 x0 x3 x4
    = mC (arg2.view.read (Elt F) (harg2.unread x0)) (arg5.view.read (Elt F) (harg5.unread x3)) (arg6.view.read (Elt F) (harg6.unread x4)) 0 (M1 k0_pay49 0) 7 :=
  (View.readCov_cons_toLoadRect _ _ _ _).trans (congrArg (mN (Q (arg2.view.read (Elt F) (harg2.unread x0)) 0) (KS (arg6.view.read (Elt F) (harg6.unread x4)) 0 6) (KC (arg5.view.read (Elt F) (harg5.unread x3)) 0 6)) (m_0_6 c arg2 harg2 arg5 harg5 arg6 harg6 arg14 x0 x3 x4))

/-- What head 0 loads as the running denominator after 7 chunks of the block. -/
theorem l_0_7 : kernelRun0_A.sl.v407 c arg2 harg2 arg5 harg5 arg6 harg6 arg14 arg15 x0 x3 x4
    = lC (arg2.view.read (Elt F) (harg2.unread x0)) (arg5.view.read (Elt F) (harg5.unread x3)) (arg6.view.read (Elt F) (harg6.unread x4)) 0 (M1 k0_pay49 0) (M1 k0_pay50 0) 7 :=
  (View.readCov_cons_toLoadRect _ _ _ _).trans (congrArg₂ (lN (Q (arg2.view.read (Elt F) (harg2.unread x0)) 0) (KS (arg6.view.read (Elt F) (harg6.unread x4)) 0 6) (KC (arg5.view.read (Elt F) (harg5.unread x3)) 0 6)) (m_0_6 c arg2 harg2 arg5 harg5 arg6 harg6 arg14 x0 x3 x4) (l_0_6 c arg2 harg2 arg5 harg5 arg6 harg6 arg14 arg15 x0 x3 x4))

/-- What head 0 loads as the weighted sum after 7 chunks of the block. -/
theorem a_0_7 : kernelRun0_A.sl.v418 c arg2 harg2 arg5 harg5 arg6 harg6 arg7 harg7 arg8 harg8 arg14 arg16 x0 x3 x4 x5 x6
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 k0_pay49 0) (A1 k0_pay51 0) 7 :=
  (View.readCov_cons_toLoadRect _ _ _ _).trans (congrArg₂ (aN (Q (arg2.view.read (Elt F) (harg2.unread x0)) 0) (KS (arg6.view.read (Elt F) (harg6.unread x4)) 0 6) (KC (arg5.view.read (Elt F) (harg5.unread x3)) 0 6) (KS (arg8.view.read (Elt F) (harg8.unread x6)) 0 6) (KC (arg7.view.read (Elt F) (harg7.unread x5)) 0 6)) (m_0_6 c arg2 harg2 arg5 harg5 arg6 harg6 arg14 x0 x3 x4) (a_0_6 c arg2 harg2 arg5 harg5 arg6 harg6 arg7 harg7 arg8 harg8 arg14 arg16 x0 x3 x4 x5 x6))

/-- What head 1 loads as the running maximum after 0 chunks of the block. -/
theorem m_1_0 : kernelRun0_A.sl.v452 c arg2 harg2 arg5 harg5 arg6 harg6 arg14 x0 x3 x4
    = mC (arg2.view.read (Elt F) (harg2.unread x0)) (arg5.view.read (Elt F) (harg5.unread x3)) (arg6.view.read (Elt F) (harg6.unread x4)) 1 (M1 k0_pay49 1) 0 :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_fill _ _ _ _ _ (by decide)

/-- What head 1 loads as the running denominator after 0 chunks of the block. -/
theorem l_1_0 : kernelRun0_A.sl.v462 c arg2 harg2 arg5 harg5 arg6 harg6 arg14 arg15 x0 x3 x4
    = lC (arg2.view.read (Elt F) (harg2.unread x0)) (arg5.view.read (Elt F) (harg5.unread x3)) (arg6.view.read (Elt F) (harg6.unread x4)) 1 (M1 k0_pay49 1) (M1 k0_pay50 1) 0 :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_fill _ _ _ _ _ (by decide)

/-- What head 1 loads as the weighted sum after 0 chunks of the block. -/
theorem a_1_0 : kernelRun0_A.sl.v473 c arg2 harg2 arg5 harg5 arg6 harg6 arg7 harg7 arg8 harg8 arg14 arg16 x0 x3 x4 x5 x6
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 k0_pay49 1) (A1 k0_pay51 1) 0 :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| View.readCov_fill _ _ _ _ _ (by decide)

/-- What head 1 loads as the running maximum after 1 chunks of the block. -/
theorem m_1_1 : kernelRun0_A.sl.v505 c arg2 harg2 arg5 harg5 arg6 harg6 arg14 x0 x3 x4
    = mC (arg2.view.read (Elt F) (harg2.unread x0)) (arg5.view.read (Elt F) (harg5.unread x3)) (arg6.view.read (Elt F) (harg6.unread x4)) 1 (M1 k0_pay49 1) 1 :=
  (View.readCov_cons_toLoadRect _ _ _ _).trans (congrArg (mN (Q (arg2.view.read (Elt F) (harg2.unread x0)) 1) (KS (arg6.view.read (Elt F) (harg6.unread x4)) 1 0) (KC (arg5.view.read (Elt F) (harg5.unread x3)) 1 0)) (m_1_0 c arg2 harg2 arg5 harg5 arg6 harg6 arg14 x0 x3 x4))

/-- What head 1 loads as the running denominator after 1 chunks of the block. -/
theorem l_1_1 : kernelRun0_A.sl.v515 c arg2 harg2 arg5 harg5 arg6 harg6 arg14 arg15 x0 x3 x4
    = lC (arg2.view.read (Elt F) (harg2.unread x0)) (arg5.view.read (Elt F) (harg5.unread x3)) (arg6.view.read (Elt F) (harg6.unread x4)) 1 (M1 k0_pay49 1) (M1 k0_pay50 1) 1 :=
  (View.readCov_cons_toLoadRect _ _ _ _).trans (congrArg₂ (lN (Q (arg2.view.read (Elt F) (harg2.unread x0)) 1) (KS (arg6.view.read (Elt F) (harg6.unread x4)) 1 0) (KC (arg5.view.read (Elt F) (harg5.unread x3)) 1 0)) (m_1_0 c arg2 harg2 arg5 harg5 arg6 harg6 arg14 x0 x3 x4) (l_1_0 c arg2 harg2 arg5 harg5 arg6 harg6 arg14 arg15 x0 x3 x4))

/-- What head 1 loads as the weighted sum after 1 chunks of the block. -/
theorem a_1_1 : kernelRun0_A.sl.v526 c arg2 harg2 arg5 harg5 arg6 harg6 arg7 harg7 arg8 harg8 arg14 arg16 x0 x3 x4 x5 x6
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 k0_pay49 1) (A1 k0_pay51 1) 1 :=
  (View.readCov_cons_toLoadRect _ _ _ _).trans ((aN_split (Q (arg2.view.read (Elt F) (harg2.unread x0)) 1) (KS (arg6.view.read (Elt F) (harg6.unread x4)) 1 0) (KC (arg5.view.read (Elt F) (harg5.unread x3)) 1 0) (KS (arg8.view.read (Elt F) (harg8.unread x6)) 1 0) (KC (arg7.view.read (Elt F) (harg7.unread x5)) 1 0) (kernelRun0_A.sl.v452 c arg2 harg2 arg5 harg5 arg6 harg6 arg14 x0 x3 x4) (kernelRun0_A.sl.v473 c arg2 harg2 arg5 harg5 arg6 harg6 arg7 harg7 arg8 harg8 arg14 arg16 x0 x3 x4 x5 x6)).trans (congrArg₂ (aN (Q (arg2.view.read (Elt F) (harg2.unread x0)) 1) (KS (arg6.view.read (Elt F) (harg6.unread x4)) 1 0) (KC (arg5.view.read (Elt F) (harg5.unread x3)) 1 0) (KS (arg8.view.read (Elt F) (harg8.unread x6)) 1 0) (KC (arg7.view.read (Elt F) (harg7.unread x5)) 1 0)) (m_1_0 c arg2 harg2 arg5 harg5 arg6 harg6 arg14 x0 x3 x4) (a_1_0 c arg2 harg2 arg5 harg5 arg6 harg6 arg7 harg7 arg8 harg8 arg14 arg16 x0 x3 x4 x5 x6)))

/-- What head 1 loads as the running maximum after 2 chunks of the block. -/
theorem m_1_2 : kernelRun0_A.sl.v558 c arg2 harg2 arg5 harg5 arg6 harg6 arg14 x0 x3 x4
    = mC (arg2.view.read (Elt F) (harg2.unread x0)) (arg5.view.read (Elt F) (harg5.unread x3)) (arg6.view.read (Elt F) (harg6.unread x4)) 1 (M1 k0_pay49 1) 2 :=
  (View.readCov_cons_toLoadRect _ _ _ _).trans (congrArg (mN (Q (arg2.view.read (Elt F) (harg2.unread x0)) 1) (KS (arg6.view.read (Elt F) (harg6.unread x4)) 1 1) (KC (arg5.view.read (Elt F) (harg5.unread x3)) 1 1)) (m_1_1 c arg2 harg2 arg5 harg5 arg6 harg6 arg14 x0 x3 x4))

/-- What head 1 loads as the running denominator after 2 chunks of the block. -/
theorem l_1_2 : kernelRun0_A.sl.v568 c arg2 harg2 arg5 harg5 arg6 harg6 arg14 arg15 x0 x3 x4
    = lC (arg2.view.read (Elt F) (harg2.unread x0)) (arg5.view.read (Elt F) (harg5.unread x3)) (arg6.view.read (Elt F) (harg6.unread x4)) 1 (M1 k0_pay49 1) (M1 k0_pay50 1) 2 :=
  (View.readCov_cons_toLoadRect _ _ _ _).trans (congrArg₂ (lN (Q (arg2.view.read (Elt F) (harg2.unread x0)) 1) (KS (arg6.view.read (Elt F) (harg6.unread x4)) 1 1) (KC (arg5.view.read (Elt F) (harg5.unread x3)) 1 1)) (m_1_1 c arg2 harg2 arg5 harg5 arg6 harg6 arg14 x0 x3 x4) (l_1_1 c arg2 harg2 arg5 harg5 arg6 harg6 arg14 arg15 x0 x3 x4))

/-- What head 1 loads as the weighted sum after 2 chunks of the block. -/
theorem a_1_2 : kernelRun0_A.sl.v579 c arg2 harg2 arg5 harg5 arg6 harg6 arg7 harg7 arg8 harg8 arg14 arg16 x0 x3 x4 x5 x6
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 k0_pay49 1) (A1 k0_pay51 1) 2 :=
  (View.readCov_cons_toLoadRect _ _ _ _).trans (congrArg₂ (aN (Q (arg2.view.read (Elt F) (harg2.unread x0)) 1) (KS (arg6.view.read (Elt F) (harg6.unread x4)) 1 1) (KC (arg5.view.read (Elt F) (harg5.unread x3)) 1 1) (KS (arg8.view.read (Elt F) (harg8.unread x6)) 1 1) (KC (arg7.view.read (Elt F) (harg7.unread x5)) 1 1)) (m_1_1 c arg2 harg2 arg5 harg5 arg6 harg6 arg14 x0 x3 x4) (a_1_1 c arg2 harg2 arg5 harg5 arg6 harg6 arg7 harg7 arg8 harg8 arg14 arg16 x0 x3 x4 x5 x6))

/-- What head 1 loads as the running maximum after 3 chunks of the block. -/
theorem m_1_3 : kernelRun0_A.sl.v611 c arg2 harg2 arg5 harg5 arg6 harg6 arg14 x0 x3 x4
    = mC (arg2.view.read (Elt F) (harg2.unread x0)) (arg5.view.read (Elt F) (harg5.unread x3)) (arg6.view.read (Elt F) (harg6.unread x4)) 1 (M1 k0_pay49 1) 3 :=
  (View.readCov_cons_toLoadRect _ _ _ _).trans (congrArg (mN (Q (arg2.view.read (Elt F) (harg2.unread x0)) 1) (KS (arg6.view.read (Elt F) (harg6.unread x4)) 1 2) (KC (arg5.view.read (Elt F) (harg5.unread x3)) 1 2)) (m_1_2 c arg2 harg2 arg5 harg5 arg6 harg6 arg14 x0 x3 x4))

/-- What head 1 loads as the running denominator after 3 chunks of the block. -/
theorem l_1_3 : kernelRun0_A.sl.v621 c arg2 harg2 arg5 harg5 arg6 harg6 arg14 arg15 x0 x3 x4
    = lC (arg2.view.read (Elt F) (harg2.unread x0)) (arg5.view.read (Elt F) (harg5.unread x3)) (arg6.view.read (Elt F) (harg6.unread x4)) 1 (M1 k0_pay49 1) (M1 k0_pay50 1) 3 :=
  (View.readCov_cons_toLoadRect _ _ _ _).trans (congrArg₂ (lN (Q (arg2.view.read (Elt F) (harg2.unread x0)) 1) (KS (arg6.view.read (Elt F) (harg6.unread x4)) 1 2) (KC (arg5.view.read (Elt F) (harg5.unread x3)) 1 2)) (m_1_2 c arg2 harg2 arg5 harg5 arg6 harg6 arg14 x0 x3 x4) (l_1_2 c arg2 harg2 arg5 harg5 arg6 harg6 arg14 arg15 x0 x3 x4))

/-- What head 1 loads as the weighted sum after 3 chunks of the block. -/
theorem a_1_3 : kernelRun0_A.sl.v632 c arg2 harg2 arg5 harg5 arg6 harg6 arg7 harg7 arg8 harg8 arg14 arg16 x0 x3 x4 x5 x6
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 k0_pay49 1) (A1 k0_pay51 1) 3 :=
  (View.readCov_cons_toLoadRect _ _ _ _).trans (congrArg₂ (aN (Q (arg2.view.read (Elt F) (harg2.unread x0)) 1) (KS (arg6.view.read (Elt F) (harg6.unread x4)) 1 2) (KC (arg5.view.read (Elt F) (harg5.unread x3)) 1 2) (KS (arg8.view.read (Elt F) (harg8.unread x6)) 1 2) (KC (arg7.view.read (Elt F) (harg7.unread x5)) 1 2)) (m_1_2 c arg2 harg2 arg5 harg5 arg6 harg6 arg14 x0 x3 x4) (a_1_2 c arg2 harg2 arg5 harg5 arg6 harg6 arg7 harg7 arg8 harg8 arg14 arg16 x0 x3 x4 x5 x6))

/-- What head 1 loads as the running maximum after 4 chunks of the block. -/
theorem m_1_4 : kernelRun0_A.sl.v664 c arg2 harg2 arg5 harg5 arg6 harg6 arg14 x0 x3 x4
    = mC (arg2.view.read (Elt F) (harg2.unread x0)) (arg5.view.read (Elt F) (harg5.unread x3)) (arg6.view.read (Elt F) (harg6.unread x4)) 1 (M1 k0_pay49 1) 4 :=
  (View.readCov_cons_toLoadRect _ _ _ _).trans (congrArg (mN (Q (arg2.view.read (Elt F) (harg2.unread x0)) 1) (KS (arg6.view.read (Elt F) (harg6.unread x4)) 1 3) (KC (arg5.view.read (Elt F) (harg5.unread x3)) 1 3)) (m_1_3 c arg2 harg2 arg5 harg5 arg6 harg6 arg14 x0 x3 x4))

/-- What head 1 loads as the running denominator after 4 chunks of the block. -/
theorem l_1_4 : kernelRun0_A.sl.v674 c arg2 harg2 arg5 harg5 arg6 harg6 arg14 arg15 x0 x3 x4
    = lC (arg2.view.read (Elt F) (harg2.unread x0)) (arg5.view.read (Elt F) (harg5.unread x3)) (arg6.view.read (Elt F) (harg6.unread x4)) 1 (M1 k0_pay49 1) (M1 k0_pay50 1) 4 :=
  (View.readCov_cons_toLoadRect _ _ _ _).trans (congrArg₂ (lN (Q (arg2.view.read (Elt F) (harg2.unread x0)) 1) (KS (arg6.view.read (Elt F) (harg6.unread x4)) 1 3) (KC (arg5.view.read (Elt F) (harg5.unread x3)) 1 3)) (m_1_3 c arg2 harg2 arg5 harg5 arg6 harg6 arg14 x0 x3 x4) (l_1_3 c arg2 harg2 arg5 harg5 arg6 harg6 arg14 arg15 x0 x3 x4))

/-- What head 1 loads as the weighted sum after 4 chunks of the block. -/
theorem a_1_4 : kernelRun0_A.sl.v685 c arg2 harg2 arg5 harg5 arg6 harg6 arg7 harg7 arg8 harg8 arg14 arg16 x0 x3 x4 x5 x6
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 k0_pay49 1) (A1 k0_pay51 1) 4 :=
  (View.readCov_cons_toLoadRect _ _ _ _).trans (congrArg₂ (aN (Q (arg2.view.read (Elt F) (harg2.unread x0)) 1) (KS (arg6.view.read (Elt F) (harg6.unread x4)) 1 3) (KC (arg5.view.read (Elt F) (harg5.unread x3)) 1 3) (KS (arg8.view.read (Elt F) (harg8.unread x6)) 1 3) (KC (arg7.view.read (Elt F) (harg7.unread x5)) 1 3)) (m_1_3 c arg2 harg2 arg5 harg5 arg6 harg6 arg14 x0 x3 x4) (a_1_3 c arg2 harg2 arg5 harg5 arg6 harg6 arg7 harg7 arg8 harg8 arg14 arg16 x0 x3 x4 x5 x6))

/-- What head 1 loads as the running maximum after 5 chunks of the block. -/
theorem m_1_5 : kernelRun0_A.sl.v717 c arg2 harg2 arg5 harg5 arg6 harg6 arg14 x0 x3 x4
    = mC (arg2.view.read (Elt F) (harg2.unread x0)) (arg5.view.read (Elt F) (harg5.unread x3)) (arg6.view.read (Elt F) (harg6.unread x4)) 1 (M1 k0_pay49 1) 5 :=
  (View.readCov_cons_toLoadRect _ _ _ _).trans (congrArg (mN (Q (arg2.view.read (Elt F) (harg2.unread x0)) 1) (KS (arg6.view.read (Elt F) (harg6.unread x4)) 1 4) (KC (arg5.view.read (Elt F) (harg5.unread x3)) 1 4)) (m_1_4 c arg2 harg2 arg5 harg5 arg6 harg6 arg14 x0 x3 x4))

/-- What head 1 loads as the running denominator after 5 chunks of the block. -/
theorem l_1_5 : kernelRun0_A.sl.v727 c arg2 harg2 arg5 harg5 arg6 harg6 arg14 arg15 x0 x3 x4
    = lC (arg2.view.read (Elt F) (harg2.unread x0)) (arg5.view.read (Elt F) (harg5.unread x3)) (arg6.view.read (Elt F) (harg6.unread x4)) 1 (M1 k0_pay49 1) (M1 k0_pay50 1) 5 :=
  (View.readCov_cons_toLoadRect _ _ _ _).trans (congrArg₂ (lN (Q (arg2.view.read (Elt F) (harg2.unread x0)) 1) (KS (arg6.view.read (Elt F) (harg6.unread x4)) 1 4) (KC (arg5.view.read (Elt F) (harg5.unread x3)) 1 4)) (m_1_4 c arg2 harg2 arg5 harg5 arg6 harg6 arg14 x0 x3 x4) (l_1_4 c arg2 harg2 arg5 harg5 arg6 harg6 arg14 arg15 x0 x3 x4))

/-- What head 1 loads as the weighted sum after 5 chunks of the block. -/
theorem a_1_5 : kernelRun0_A.sl.v738 c arg2 harg2 arg5 harg5 arg6 harg6 arg7 harg7 arg8 harg8 arg14 arg16 x0 x3 x4 x5 x6
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 k0_pay49 1) (A1 k0_pay51 1) 5 :=
  (View.readCov_cons_toLoadRect _ _ _ _).trans (congrArg₂ (aN (Q (arg2.view.read (Elt F) (harg2.unread x0)) 1) (KS (arg6.view.read (Elt F) (harg6.unread x4)) 1 4) (KC (arg5.view.read (Elt F) (harg5.unread x3)) 1 4) (KS (arg8.view.read (Elt F) (harg8.unread x6)) 1 4) (KC (arg7.view.read (Elt F) (harg7.unread x5)) 1 4)) (m_1_4 c arg2 harg2 arg5 harg5 arg6 harg6 arg14 x0 x3 x4) (a_1_4 c arg2 harg2 arg5 harg5 arg6 harg6 arg7 harg7 arg8 harg8 arg14 arg16 x0 x3 x4 x5 x6))

/-- What head 1 loads as the running maximum after 6 chunks of the block. -/
theorem m_1_6 : kernelRun0_A.sl.v770 c arg2 harg2 arg5 harg5 arg6 harg6 arg14 x0 x3 x4
    = mC (arg2.view.read (Elt F) (harg2.unread x0)) (arg5.view.read (Elt F) (harg5.unread x3)) (arg6.view.read (Elt F) (harg6.unread x4)) 1 (M1 k0_pay49 1) 6 :=
  (View.readCov_cons_toLoadRect _ _ _ _).trans (congrArg (mN (Q (arg2.view.read (Elt F) (harg2.unread x0)) 1) (KS (arg6.view.read (Elt F) (harg6.unread x4)) 1 5) (KC (arg5.view.read (Elt F) (harg5.unread x3)) 1 5)) (m_1_5 c arg2 harg2 arg5 harg5 arg6 harg6 arg14 x0 x3 x4))

/-- What head 1 loads as the running denominator after 6 chunks of the block. -/
theorem l_1_6 : kernelRun0_A.sl.v780 c arg2 harg2 arg5 harg5 arg6 harg6 arg14 arg15 x0 x3 x4
    = lC (arg2.view.read (Elt F) (harg2.unread x0)) (arg5.view.read (Elt F) (harg5.unread x3)) (arg6.view.read (Elt F) (harg6.unread x4)) 1 (M1 k0_pay49 1) (M1 k0_pay50 1) 6 :=
  (View.readCov_cons_toLoadRect _ _ _ _).trans (congrArg₂ (lN (Q (arg2.view.read (Elt F) (harg2.unread x0)) 1) (KS (arg6.view.read (Elt F) (harg6.unread x4)) 1 5) (KC (arg5.view.read (Elt F) (harg5.unread x3)) 1 5)) (m_1_5 c arg2 harg2 arg5 harg5 arg6 harg6 arg14 x0 x3 x4) (l_1_5 c arg2 harg2 arg5 harg5 arg6 harg6 arg14 arg15 x0 x3 x4))

/-- What head 1 loads as the weighted sum after 6 chunks of the block. -/
theorem a_1_6 : kernelRun0_A.sl.v791 c arg2 harg2 arg5 harg5 arg6 harg6 arg7 harg7 arg8 harg8 arg14 arg16 x0 x3 x4 x5 x6
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 k0_pay49 1) (A1 k0_pay51 1) 6 :=
  (View.readCov_cons_toLoadRect _ _ _ _).trans (congrArg₂ (aN (Q (arg2.view.read (Elt F) (harg2.unread x0)) 1) (KS (arg6.view.read (Elt F) (harg6.unread x4)) 1 5) (KC (arg5.view.read (Elt F) (harg5.unread x3)) 1 5) (KS (arg8.view.read (Elt F) (harg8.unread x6)) 1 5) (KC (arg7.view.read (Elt F) (harg7.unread x5)) 1 5)) (m_1_5 c arg2 harg2 arg5 harg5 arg6 harg6 arg14 x0 x3 x4) (a_1_5 c arg2 harg2 arg5 harg5 arg6 harg6 arg7 harg7 arg8 harg8 arg14 arg16 x0 x3 x4 x5 x6))

/-- What head 1 loads as the running maximum after 7 chunks of the block. -/
theorem m_1_7 : kernelRun0_A.sl.v823 c arg2 harg2 arg5 harg5 arg6 harg6 arg14 x0 x3 x4
    = mC (arg2.view.read (Elt F) (harg2.unread x0)) (arg5.view.read (Elt F) (harg5.unread x3)) (arg6.view.read (Elt F) (harg6.unread x4)) 1 (M1 k0_pay49 1) 7 :=
  (View.readCov_cons_toLoadRect _ _ _ _).trans (congrArg (mN (Q (arg2.view.read (Elt F) (harg2.unread x0)) 1) (KS (arg6.view.read (Elt F) (harg6.unread x4)) 1 6) (KC (arg5.view.read (Elt F) (harg5.unread x3)) 1 6)) (m_1_6 c arg2 harg2 arg5 harg5 arg6 harg6 arg14 x0 x3 x4))

/-- What head 1 loads as the running denominator after 7 chunks of the block. -/
theorem l_1_7 : kernelRun0_A.sl.v833 c arg2 harg2 arg5 harg5 arg6 harg6 arg14 arg15 x0 x3 x4
    = lC (arg2.view.read (Elt F) (harg2.unread x0)) (arg5.view.read (Elt F) (harg5.unread x3)) (arg6.view.read (Elt F) (harg6.unread x4)) 1 (M1 k0_pay49 1) (M1 k0_pay50 1) 7 :=
  (View.readCov_cons_toLoadRect _ _ _ _).trans (congrArg₂ (lN (Q (arg2.view.read (Elt F) (harg2.unread x0)) 1) (KS (arg6.view.read (Elt F) (harg6.unread x4)) 1 6) (KC (arg5.view.read (Elt F) (harg5.unread x3)) 1 6)) (m_1_6 c arg2 harg2 arg5 harg5 arg6 harg6 arg14 x0 x3 x4) (l_1_6 c arg2 harg2 arg5 harg5 arg6 harg6 arg14 arg15 x0 x3 x4))

/-- What head 1 loads as the weighted sum after 7 chunks of the block. -/
theorem a_1_7 : kernelRun0_A.sl.v844 c arg2 harg2 arg5 harg5 arg6 harg6 arg7 harg7 arg8 harg8 arg14 arg16 x0 x3 x4 x5 x6
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 k0_pay49 1) (A1 k0_pay51 1) 7 :=
  (View.readCov_cons_toLoadRect _ _ _ _).trans (congrArg₂ (aN (Q (arg2.view.read (Elt F) (harg2.unread x0)) 1) (KS (arg6.view.read (Elt F) (harg6.unread x4)) 1 6) (KC (arg5.view.read (Elt F) (harg5.unread x3)) 1 6) (KS (arg8.view.read (Elt F) (harg8.unread x6)) 1 6) (KC (arg7.view.read (Elt F) (harg7.unread x5)) 1 6)) (m_1_6 c arg2 harg2 arg5 harg5 arg6 harg6 arg14 x0 x3 x4) (a_1_6 c arg2 harg2 arg5 harg5 arg6 harg6 arg7 harg7 arg8 harg8 arg14 arg16 x0 x3 x4 x5 x6))

/-- What a point leaves as the running maximum of head 0. -/
theorem M_0 : M1 (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6) 0
    = mC (arg2.view.read (Elt F) (harg2.unread x0)) (arg5.view.read (Elt F) (harg5.unread x3)) (arg6.view.read (Elt F) (harg6.unread x4)) 0 (M1 k0_pay49 0) 8 :=
  (congrArg (fun z => M1 z 0) (View.read_writes_junk_eq_canon _ _)).trans <| (View.readCov_eq_canon' arg14.view _ (Rect.unit (s := S2x64x1) ![0, 0, 0] S1x64x1.size inb_S2x64x1_S1x64x1_0_0_0).toLoadRect).symm.trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_cons_toLoadRect _ _ _ _).trans (congrArg (mN (Q (arg2.view.read (Elt F) (harg2.unread x0)) 0) (KS (arg6.view.read (Elt F) (harg6.unread x4)) 0 7) (KC (arg5.view.read (Elt F) (harg5.unread x3)) 0 7)) (m_0_7 c arg2 harg2 arg5 harg5 arg6 harg6 arg14 x0 x3 x4))

/-- What a point leaves as the running maximum of head 1. -/
theorem M_1 : M1 (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6) 1
    = mC (arg2.view.read (Elt F) (harg2.unread x0)) (arg5.view.read (Elt F) (harg5.unread x3)) (arg6.view.read (Elt F) (harg6.unread x4)) 1 (M1 k0_pay49 1) 8 :=
  (congrArg (fun z => M1 z 1) (View.read_writes_junk_eq_canon _ _)).trans <| (View.readCov_eq_canon' arg14.view _ (Rect.unit (s := S2x64x1) ![1, 0, 0] S1x64x1.size inb_S2x64x1_S1x64x1_1_0_0).toLoadRect).symm.trans <| (View.readCov_cons_toLoadRect _ _ _ _).trans (congrArg (mN (Q (arg2.view.read (Elt F) (harg2.unread x0)) 1) (KS (arg6.view.read (Elt F) (harg6.unread x4)) 1 7) (KC (arg5.view.read (Elt F) (harg5.unread x3)) 1 7)) (m_1_7 c arg2 harg2 arg5 harg5 arg6 harg6 arg14 x0 x3 x4))

/-- What a point leaves as the running denominator of head 0. -/
theorem L_0 : M1 (sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6) 0
    = lC (arg2.view.read (Elt F) (harg2.unread x0)) (arg5.view.read (Elt F) (harg5.unread x3)) (arg6.view.read (Elt F) (harg6.unread x4)) 0 (M1 k0_pay49 0) (M1 k0_pay50 0) 8 :=
  (congrArg (fun z => M1 z 0) (View.read_writes_junk_eq_canon _ _)).trans <| (View.readCov_eq_canon' arg15.view _ (Rect.unit (s := S2x64x1) ![0, 0, 0] S1x64x1.size inb_S2x64x1_S1x64x1_0_0_0).toLoadRect).symm.trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_cons_toLoadRect _ _ _ _).trans (congrArg₂ (lN (Q (arg2.view.read (Elt F) (harg2.unread x0)) 0) (KS (arg6.view.read (Elt F) (harg6.unread x4)) 0 7) (KC (arg5.view.read (Elt F) (harg5.unread x3)) 0 7)) (m_0_7 c arg2 harg2 arg5 harg5 arg6 harg6 arg14 x0 x3 x4) (l_0_7 c arg2 harg2 arg5 harg5 arg6 harg6 arg14 arg15 x0 x3 x4))

/-- What a point leaves as the running denominator of head 1. -/
theorem L_1 : M1 (sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6) 1
    = lC (arg2.view.read (Elt F) (harg2.unread x0)) (arg5.view.read (Elt F) (harg5.unread x3)) (arg6.view.read (Elt F) (harg6.unread x4)) 1 (M1 k0_pay49 1) (M1 k0_pay50 1) 8 :=
  (congrArg (fun z => M1 z 1) (View.read_writes_junk_eq_canon _ _)).trans <| (View.readCov_eq_canon' arg15.view _ (Rect.unit (s := S2x64x1) ![1, 0, 0] S1x64x1.size inb_S2x64x1_S1x64x1_1_0_0).toLoadRect).symm.trans <| (View.readCov_cons_toLoadRect _ _ _ _).trans (congrArg₂ (lN (Q (arg2.view.read (Elt F) (harg2.unread x0)) 1) (KS (arg6.view.read (Elt F) (harg6.unread x4)) 1 7) (KC (arg5.view.read (Elt F) (harg5.unread x3)) 1 7)) (m_1_7 c arg2 harg2 arg5 harg5 arg6 harg6 arg14 x0 x3 x4) (l_1_7 c arg2 harg2 arg5 harg5 arg6 harg6 arg14 arg15 x0 x3 x4))

/-- What a point leaves as the weighted sum of head 0. -/
theorem A_0 : A1 (sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6) 0
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 k0_pay49 0) (A1 k0_pay51 0) 8 :=
  (congrArg (fun z => A1 z 0) (View.read_writes_junk_eq_canon _ _)).trans <| (View.readCov_eq_canon' arg16.view _ (Rect.unit (s := S2x64x128) ![0, 0, 0] S1x64x128.size inb_S2x64x128_S1x64x128_0_0_0).toLoadRect).symm.trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_cons_toLoadRect _ _ _ _).trans (congrArg₂ (aN (Q (arg2.view.read (Elt F) (harg2.unread x0)) 0) (KS (arg6.view.read (Elt F) (harg6.unread x4)) 0 7) (KC (arg5.view.read (Elt F) (harg5.unread x3)) 0 7) (KS (arg8.view.read (Elt F) (harg8.unread x6)) 0 7) (KC (arg7.view.read (Elt F) (harg7.unread x5)) 0 7)) (m_0_7 c arg2 harg2 arg5 harg5 arg6 harg6 arg14 x0 x3 x4) (a_0_7 c arg2 harg2 arg5 harg5 arg6 harg6 arg7 harg7 arg8 harg8 arg14 arg16 x0 x3 x4 x5 x6))

/-- What a point leaves as the weighted sum of head 1. -/
theorem A_1 : A1 (sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6) 1
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 k0_pay49 1) (A1 k0_pay51 1) 8 :=
  (congrArg (fun z => A1 z 1) (View.read_writes_junk_eq_canon _ _)).trans <| (View.readCov_eq_canon' arg16.view _ (Rect.unit (s := S2x64x128) ![1, 0, 0] S1x64x128.size inb_S2x64x128_S1x64x128_1_0_0).toLoadRect).symm.trans <| (View.readCov_cons_toLoadRect _ _ _ _).trans (congrArg₂ (aN (Q (arg2.view.read (Elt F) (harg2.unread x0)) 1) (KS (arg6.view.read (Elt F) (harg6.unread x4)) 1 7) (KC (arg5.view.read (Elt F) (harg5.unread x3)) 1 7) (KS (arg8.view.read (Elt F) (harg8.unread x6)) 1 7) (KC (arg7.view.read (Elt F) (harg7.unread x5)) 1 7)) (m_1_7 c arg2 harg2 arg5 harg5 arg6 harg6 arg14 x0 x3 x4) (a_1_7 c arg2 harg2 arg5 harg5 arg6 harg6 arg7 harg7 arg8 harg8 arg14 arg16 x0 x3 x4 x5 x6))

end Cert.KernelIdeal.BodyA

end
-- ==== Proof.BodyB.lean ====
module
public import proofs.«01_k».proof.Proof.Gen.KernelIdeal.Frame
public import proofs.«01_k».proof.Proof.Chunk
@[expose] public section

set_option maxRecDepth 16384
set_option maxHeartbeats 2000000

noncomputable section

namespace Cert.KernelIdeal.BodyB

open Idealize.ShloMosaic Idealize.ShloMosaic.TcCoe Idealize.ShloMosaic.Tactic
open Cert.KernelIdeal Cert.KernelIdeal.Gen Cert.KernelIdeal.Chunk

variable {F : FTy → Type} [FloatOps F]

variable (c : Dev nD) (i : grid0.Coords) (arg2 : Memref sig .tc .vmem S1x2x64x128 .bf16) (harg2 : arg2.IsWhole) (arg3 : Memref sig .tc .vmem S1x2x4x128 .bf16) (harg3 : arg3.IsWhole) (arg4 : Memref sig .tc .vmem S1x2x4x128 .bf16) (harg4 : arg4.IsWhole) (arg5 : Memref sig .tc .vmem S1x2x4096x128 .i8) (harg5 : arg5.IsWhole) (arg6 : Memref sig .tc .vmem S1x2x4096 .f32) (harg6 : arg6.IsWhole) (arg7 : Memref sig .tc .vmem S1x2x4096x128 .i8) (harg7 : arg7.IsWhole) (arg8 : Memref sig .tc .vmem S1x2x4096 .f32) (harg8 : arg8.IsWhole) (arg9 : Memref sig .tc .vmem S1x2x64x128 .bf16) (harg9 : arg9.IsWhole) (arg10 : Memref sig .tc .vmem S1x2x4x128 .i8) (harg10 : arg10.IsWhole) (arg11 : Memref sig .tc .vmem S1x2x4x1 .f32) (harg11 : arg11.IsWhole) (arg12 : Memref sig .tc .vmem S1x2x4x128 .i8) (harg12 : arg12.IsWhole) (arg13 : Memref sig .tc .vmem S1x2x4x1 .f32) (harg13 : arg13.IsWhole) (arg14 : Memref sig .tc .vmem S2x64x1 .f32) (harg14 : arg14.IsWhole) (arg15 : Memref sig .tc .vmem S2x64x1 .f32) (harg15 : arg15.IsWhole) (arg16 : Memref sig .tc .vmem S2x64x128 .f32) (harg16 : arg16.IsWhole)
  (hc0 : ¬cond0_0 i) (hc1 : ¬cond0_1 i)
  (x0 : Vec F S1x2x64x128 .bf16) (x1 : Vec F S1x2x4x128 .bf16) (x2 : Vec F S1x2x4x128 .bf16) (x3 : Vec F S1x2x4096x128 .i8) (x4 : Vec F S1x2x4096 .f32) (x5 : Vec F S1x2x4096x128 .i8) (x6 : Vec F S1x2x4096 .f32) (xs0 : Vec F S2x64x1 .f32) (xs1 : Vec F S2x64x1 .f32) (xs2 : Vec F S2x64x128 .f32)

/-- What head 0 loads as the running maximum after 1 chunks of the block. -/
theorem m_0_1 : kernelRun0_B.sl.v79 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 0 (M1 (arg14.view.read (Elt F) (harg14.unread xs0)) 0) 1 :=
  (View.readCov_cons_toLoadRect _ _ _ _).trans (congrArg (mN (Q (arg2.view.read (Elt F) (harg2.unread x0)) 0) (KS (arg6.view.read (Elt F) (harg6.unread x4)) 0 0) (KC (arg5.view.read (Elt F) (harg5.unread x3)) 0 0)) rfl)

/-- What head 0 loads as the running denominator after 1 chunks of the block. -/
theorem l_0_1 : kernelRun0_B.sl.v89 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 0 (M1 (arg14.view.read (Elt F) (harg14.unread xs0)) 0) (M1 (arg15.view.read (Elt F) (harg15.unread xs1)) 0) 1 :=
  (View.readCov_cons_toLoadRect _ _ _ _).trans (congrArg₂ (lN (Q (arg2.view.read (Elt F) (harg2.unread x0)) 0) (KS (arg6.view.read (Elt F) (harg6.unread x4)) 0 0) (KC (arg5.view.read (Elt F) (harg5.unread x3)) 0 0)) rfl rfl)

/-- What head 0 loads as the weighted sum after 1 chunks of the block. -/
theorem a_0_1 : kernelRun0_B.sl.v100 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 (arg14.view.read (Elt F) (harg14.unread xs0)) 0) (A1 (arg16.view.read (Elt F) (harg16.unread xs2)) 0) 1 :=
  (View.readCov_cons_toLoadRect _ _ _ _).trans (congrArg₂ (aN (Q (arg2.view.read (Elt F) (harg2.unread x0)) 0) (KS (arg6.view.read (Elt F) (harg6.unread x4)) 0 0) (KC (arg5.view.read (Elt F) (harg5.unread x3)) 0 0) (KS (arg8.view.read (Elt F) (harg8.unread x6)) 0 0) (KC (arg7.view.read (Elt F) (harg7.unread x5)) 0 0)) rfl rfl)

/-- What head 0 loads as the running maximum after 2 chunks of the block. -/
theorem m_0_2 : kernelRun0_B.sl.v132 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 0 (M1 (arg14.view.read (Elt F) (harg14.unread xs0)) 0) 2 :=
  (View.readCov_cons_toLoadRect _ _ _ _).trans (congrArg (mN (Q (arg2.view.read (Elt F) (harg2.unread x0)) 0) (KS (arg6.view.read (Elt F) (harg6.unread x4)) 0 1) (KC (arg5.view.read (Elt F) (harg5.unread x3)) 0 1)) (m_0_1 c arg2 harg2 arg5 harg5 arg6 harg6 arg14 harg14 x0 x3 x4 xs0))

/-- What head 0 loads as the running denominator after 2 chunks of the block. -/
theorem l_0_2 : kernelRun0_B.sl.v142 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 0 (M1 (arg14.view.read (Elt F) (harg14.unread xs0)) 0) (M1 (arg15.view.read (Elt F) (harg15.unread xs1)) 0) 2 :=
  (View.readCov_cons_toLoadRect _ _ _ _).trans (congrArg₂ (lN (Q (arg2.view.read (Elt F) (harg2.unread x0)) 0) (KS (arg6.view.read (Elt F) (harg6.unread x4)) 0 1) (KC (arg5.view.read (Elt F) (harg5.unread x3)) 0 1)) (m_0_1 c arg2 harg2 arg5 harg5 arg6 harg6 arg14 harg14 x0 x3 x4 xs0) (l_0_1 c arg2 harg2 arg5 harg5 arg6 harg6 arg14 harg14 arg15 harg15 x0 x3 x4 xs0 xs1))

/-- What head 0 loads as the weighted sum after 2 chunks of the block. -/
theorem a_0_2 : kernelRun0_B.sl.v153 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 (arg14.view.read (Elt F) (harg14.unread xs0)) 0) (A1 (arg16.view.read (Elt F) (harg16.unread xs2)) 0) 2 :=
  (View.readCov_cons_toLoadRect _ _ _ _).trans (congrArg₂ (aN (Q (arg2.view.read (Elt F) (harg2.unread x0)) 0) (KS (arg6.view.read (Elt F) (harg6.unread x4)) 0 1) (KC (arg5.view.read (Elt F) (harg5.unread x3)) 0 1) (KS (arg8.view.read (Elt F) (harg8.unread x6)) 0 1) (KC (arg7.view.read (Elt F) (harg7.unread x5)) 0 1)) (m_0_1 c arg2 harg2 arg5 harg5 arg6 harg6 arg14 harg14 x0 x3 x4 xs0) (a_0_1 c arg2 harg2 arg5 harg5 arg6 harg6 arg7 harg7 arg8 harg8 arg14 harg14 arg16 harg16 x0 x3 x4 x5 x6 xs0 xs2))

/-- What head 0 loads as the running maximum after 3 chunks of the block. -/
theorem m_0_3 : kernelRun0_B.sl.v185 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 0 (M1 (arg14.view.read (Elt F) (harg14.unread xs0)) 0) 3 :=
  (View.readCov_cons_toLoadRect _ _ _ _).trans (congrArg (mN (Q (arg2.view.read (Elt F) (harg2.unread x0)) 0) (KS (arg6.view.read (Elt F) (harg6.unread x4)) 0 2) (KC (arg5.view.read (Elt F) (harg5.unread x3)) 0 2)) (m_0_2 c arg2 harg2 arg5 harg5 arg6 harg6 arg14 harg14 x0 x3 x4 xs0))

/-- What head 0 loads as the running denominator after 3 chunks of the block. -/
theorem l_0_3 : kernelRun0_B.sl.v195 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 0 (M1 (arg14.view.read (Elt F) (harg14.unread xs0)) 0) (M1 (arg15.view.read (Elt F) (harg15.unread xs1)) 0) 3 :=
  (View.readCov_cons_toLoadRect _ _ _ _).trans (congrArg₂ (lN (Q (arg2.view.read (Elt F) (harg2.unread x0)) 0) (KS (arg6.view.read (Elt F) (harg6.unread x4)) 0 2) (KC (arg5.view.read (Elt F) (harg5.unread x3)) 0 2)) (m_0_2 c arg2 harg2 arg5 harg5 arg6 harg6 arg14 harg14 x0 x3 x4 xs0) (l_0_2 c arg2 harg2 arg5 harg5 arg6 harg6 arg14 harg14 arg15 harg15 x0 x3 x4 xs0 xs1))

/-- What head 0 loads as the weighted sum after 3 chunks of the block. -/
theorem a_0_3 : kernelRun0_B.sl.v206 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 (arg14.view.read (Elt F) (harg14.unread xs0)) 0) (A1 (arg16.view.read (Elt F) (harg16.unread xs2)) 0) 3 :=
  (View.readCov_cons_toLoadRect _ _ _ _).trans (congrArg₂ (aN (Q (arg2.view.read (Elt F) (harg2.unread x0)) 0) (KS (arg6.view.read (Elt F) (harg6.unread x4)) 0 2) (KC (arg5.view.read (Elt F) (harg5.unread x3)) 0 2) (KS (arg8.view.read (Elt F) (harg8.unread x6)) 0 2) (KC (arg7.view.read (Elt F) (harg7.unread x5)) 0 2)) (m_0_2 c arg2 harg2 arg5 harg5 arg6 harg6 arg14 harg14 x0 x3 x4 xs0) (a_0_2 c arg2 harg2 arg5 harg5 arg6 harg6 arg7 harg7 arg8 harg8 arg14 harg14 arg16 harg16 x0 x3 x4 x5 x6 xs0 xs2))

/-- What head 0 loads as the running maximum after 4 chunks of the block. -/
theorem m_0_4 : kernelRun0_B.sl.v238 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 0 (M1 (arg14.view.read (Elt F) (harg14.unread xs0)) 0) 4 :=
  (View.readCov_cons_toLoadRect _ _ _ _).trans (congrArg (mN (Q (arg2.view.read (Elt F) (harg2.unread x0)) 0) (KS (arg6.view.read (Elt F) (harg6.unread x4)) 0 3) (KC (arg5.view.read (Elt F) (harg5.unread x3)) 0 3)) (m_0_3 c arg2 harg2 arg5 harg5 arg6 harg6 arg14 harg14 x0 x3 x4 xs0))

/-- What head 0 loads as the running denominator after 4 chunks of the block. -/
theorem l_0_4 : kernelRun0_B.sl.v248 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 0 (M1 (arg14.view.read (Elt F) (harg14.unread xs0)) 0) (M1 (arg15.view.read (Elt F) (harg15.unread xs1)) 0) 4 :=
  (View.readCov_cons_toLoadRect _ _ _ _).trans (congrArg₂ (lN (Q (arg2.view.read (Elt F) (harg2.unread x0)) 0) (KS (arg6.view.read (Elt F) (harg6.unread x4)) 0 3) (KC (arg5.view.read (Elt F) (harg5.unread x3)) 0 3)) (m_0_3 c arg2 harg2 arg5 harg5 arg6 harg6 arg14 harg14 x0 x3 x4 xs0) (l_0_3 c arg2 harg2 arg5 harg5 arg6 harg6 arg14 harg14 arg15 harg15 x0 x3 x4 xs0 xs1))

/-- What head 0 loads as the weighted sum after 4 chunks of the block. -/
theorem a_0_4 : kernelRun0_B.sl.v259 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 (arg14.view.read (Elt F) (harg14.unread xs0)) 0) (A1 (arg16.view.read (Elt F) (harg16.unread xs2)) 0) 4 :=
  (View.readCov_cons_toLoadRect _ _ _ _).trans (congrArg₂ (aN (Q (arg2.view.read (Elt F) (harg2.unread x0)) 0) (KS (arg6.view.read (Elt F) (harg6.unread x4)) 0 3) (KC (arg5.view.read (Elt F) (harg5.unread x3)) 0 3) (KS (arg8.view.read (Elt F) (harg8.unread x6)) 0 3) (KC (arg7.view.read (Elt F) (harg7.unread x5)) 0 3)) (m_0_3 c arg2 harg2 arg5 harg5 arg6 harg6 arg14 harg14 x0 x3 x4 xs0) (a_0_3 c arg2 harg2 arg5 harg5 arg6 harg6 arg7 harg7 arg8 harg8 arg14 harg14 arg16 harg16 x0 x3 x4 x5 x6 xs0 xs2))

/-- What head 0 loads as the running maximum after 5 chunks of the block. -/
theorem m_0_5 : kernelRun0_B.sl.v291 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 0 (M1 (arg14.view.read (Elt F) (harg14.unread xs0)) 0) 5 :=
  (View.readCov_cons_toLoadRect _ _ _ _).trans (congrArg (mN (Q (arg2.view.read (Elt F) (harg2.unread x0)) 0) (KS (arg6.view.read (Elt F) (harg6.unread x4)) 0 4) (KC (arg5.view.read (Elt F) (harg5.unread x3)) 0 4)) (m_0_4 c arg2 harg2 arg5 harg5 arg6 harg6 arg14 harg14 x0 x3 x4 xs0))

/-- What head 0 loads as the running denominator after 5 chunks of the block. -/
theorem l_0_5 : kernelRun0_B.sl.v301 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 0 (M1 (arg14.view.read (Elt F) (harg14.unread xs0)) 0) (M1 (arg15.view.read (Elt F) (harg15.unread xs1)) 0) 5 :=
  (View.readCov_cons_toLoadRect _ _ _ _).trans (congrArg₂ (lN (Q (arg2.view.read (Elt F) (harg2.unread x0)) 0) (KS (arg6.view.read (Elt F) (harg6.unread x4)) 0 4) (KC (arg5.view.read (Elt F) (harg5.unread x3)) 0 4)) (m_0_4 c arg2 harg2 arg5 harg5 arg6 harg6 arg14 harg14 x0 x3 x4 xs0) (l_0_4 c arg2 harg2 arg5 harg5 arg6 harg6 arg14 harg14 arg15 harg15 x0 x3 x4 xs0 xs1))

/-- What head 0 loads as the weighted sum after 5 chunks of the block. -/
theorem a_0_5 : kernelRun0_B.sl.v312 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 (arg14.view.read (Elt F) (harg14.unread xs0)) 0) (A1 (arg16.view.read (Elt F) (harg16.unread xs2)) 0) 5 :=
  (View.readCov_cons_toLoadRect _ _ _ _).trans (congrArg₂ (aN (Q (arg2.view.read (Elt F) (harg2.unread x0)) 0) (KS (arg6.view.read (Elt F) (harg6.unread x4)) 0 4) (KC (arg5.view.read (Elt F) (harg5.unread x3)) 0 4) (KS (arg8.view.read (Elt F) (harg8.unread x6)) 0 4) (KC (arg7.view.read (Elt F) (harg7.unread x5)) 0 4)) (m_0_4 c arg2 harg2 arg5 harg5 arg6 harg6 arg14 harg14 x0 x3 x4 xs0) (a_0_4 c arg2 harg2 arg5 harg5 arg6 harg6 arg7 harg7 arg8 harg8 arg14 harg14 arg16 harg16 x0 x3 x4 x5 x6 xs0 xs2))

/-- What head 0 loads as the running maximum after 6 chunks of the block. -/
theorem m_0_6 : kernelRun0_B.sl.v344 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 0 (M1 (arg14.view.read (Elt F) (harg14.unread xs0)) 0) 6 :=
  (View.readCov_cons_toLoadRect _ _ _ _).trans (congrArg (mN (Q (arg2.view.read (Elt F) (harg2.unread x0)) 0) (KS (arg6.view.read (Elt F) (harg6.unread x4)) 0 5) (KC (arg5.view.read (Elt F) (harg5.unread x3)) 0 5)) (m_0_5 c arg2 harg2 arg5 harg5 arg6 harg6 arg14 harg14 x0 x3 x4 xs0))

/-- What head 0 loads as the running denominator after 6 chunks of the block. -/
theorem l_0_6 : kernelRun0_B.sl.v354 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 0 (M1 (arg14.view.read (Elt F) (harg14.unread xs0)) 0) (M1 (arg15.view.read (Elt F) (harg15.unread xs1)) 0) 6 :=
  (View.readCov_cons_toLoadRect _ _ _ _).trans (congrArg₂ (lN (Q (arg2.view.read (Elt F) (harg2.unread x0)) 0) (KS (arg6.view.read (Elt F) (harg6.unread x4)) 0 5) (KC (arg5.view.read (Elt F) (harg5.unread x3)) 0 5)) (m_0_5 c arg2 harg2 arg5 harg5 arg6 harg6 arg14 harg14 x0 x3 x4 xs0) (l_0_5 c arg2 harg2 arg5 harg5 arg6 harg6 arg14 harg14 arg15 harg15 x0 x3 x4 xs0 xs1))

/-- What head 0 loads as the weighted sum after 6 chunks of the block. -/
theorem a_0_6 : kernelRun0_B.sl.v365 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 (arg14.view.read (Elt F) (harg14.unread xs0)) 0) (A1 (arg16.view.read (Elt F) (harg16.unread xs2)) 0) 6 :=
  (View.readCov_cons_toLoadRect _ _ _ _).trans (congrArg₂ (aN (Q (arg2.view.read (Elt F) (harg2.unread x0)) 0) (KS (arg6.view.read (Elt F) (harg6.unread x4)) 0 5) (KC (arg5.view.read (Elt F) (harg5.unread x3)) 0 5) (KS (arg8.view.read (Elt F) (harg8.unread x6)) 0 5) (KC (arg7.view.read (Elt F) (harg7.unread x5)) 0 5)) (m_0_5 c arg2 harg2 arg5 harg5 arg6 harg6 arg14 harg14 x0 x3 x4 xs0) (a_0_5 c arg2 harg2 arg5 harg5 arg6 harg6 arg7 harg7 arg8 harg8 arg14 harg14 arg16 harg16 x0 x3 x4 x5 x6 xs0 xs2))

/-- What head 0 loads as the running maximum after 7 chunks of the block. -/
theorem m_0_7 : kernelRun0_B.sl.v397 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 0 (M1 (arg14.view.read (Elt F) (harg14.unread xs0)) 0) 7 :=
  (View.readCov_cons_toLoadRect _ _ _ _).trans (congrArg (mN (Q (arg2.view.read (Elt F) (harg2.unread x0)) 0) (KS (arg6.view.read (Elt F) (harg6.unread x4)) 0 6) (KC (arg5.view.read (Elt F) (harg5.unread x3)) 0 6)) (m_0_6 c arg2 harg2 arg5 harg5 arg6 harg6 arg14 harg14 x0 x3 x4 xs0))

/-- What head 0 loads as the running denominator after 7 chunks of the block. -/
theorem l_0_7 : kernelRun0_B.sl.v407 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 0 (M1 (arg14.view.read (Elt F) (harg14.unread xs0)) 0) (M1 (arg15.view.read (Elt F) (harg15.unread xs1)) 0) 7 :=
  (View.readCov_cons_toLoadRect _ _ _ _).trans (congrArg₂ (lN (Q (arg2.view.read (Elt F) (harg2.unread x0)) 0) (KS (arg6.view.read (Elt F) (harg6.unread x4)) 0 6) (KC (arg5.view.read (Elt F) (harg5.unread x3)) 0 6)) (m_0_6 c arg2 harg2 arg5 harg5 arg6 harg6 arg14 harg14 x0 x3 x4 xs0) (l_0_6 c arg2 harg2 arg5 harg5 arg6 harg6 arg14 harg14 arg15 harg15 x0 x3 x4 xs0 xs1))

/-- What head 0 loads as the weighted sum after 7 chunks of the block. -/
theorem a_0_7 : kernelRun0_B.sl.v418 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 (arg14.view.read (Elt F) (harg14.unread xs0)) 0) (A1 (arg16.view.read (Elt F) (harg16.unread xs2)) 0) 7 :=
  (View.readCov_cons_toLoadRect _ _ _ _).trans (congrArg₂ (aN (Q (arg2.view.read (Elt F) (harg2.unread x0)) 0) (KS (arg6.view.read (Elt F) (harg6.unread x4)) 0 6) (KC (arg5.view.read (Elt F) (harg5.unread x3)) 0 6) (KS (arg8.view.read (Elt F) (harg8.unread x6)) 0 6) (KC (arg7.view.read (Elt F) (harg7.unread x5)) 0 6)) (m_0_6 c arg2 harg2 arg5 harg5 arg6 harg6 arg14 harg14 x0 x3 x4 xs0) (a_0_6 c arg2 harg2 arg5 harg5 arg6 harg6 arg7 harg7 arg8 harg8 arg14 harg14 arg16 harg16 x0 x3 x4 x5 x6 xs0 xs2))

/-- What head 1 loads as the running maximum after 0 chunks of the block. -/
theorem m_1_0 : kernelRun0_B.sl.v452 c arg14 harg14 xs0
    = mC (arg2.view.read (Elt F) (harg2.unread x0)) (arg5.view.read (Elt F) (harg5.unread x3)) (arg6.view.read (Elt F) (harg6.unread x4)) 1 (M1 (arg14.view.read (Elt F) (harg14.unread xs0)) 1) 0 :=
  rfl

/-- What head 1 loads as the running denominator after 0 chunks of the block. -/
theorem l_1_0 : kernelRun0_B.sl.v462 c arg15 harg15 xs1
    = lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 0 :=
  rfl

/-- What head 1 loads as the weighted sum after 0 chunks of the block. -/
theorem a_1_0 : kernelRun0_B.sl.v473 c arg16 harg16 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 0 :=
  rfl

/-- What head 1 loads as the running maximum after 1 chunks of the block. -/
theorem m_1_1 : kernelRun0_B.sl.v505 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 1 (M1 (arg14.view.read (Elt F) (harg14.unread xs0)) 1) 1 :=
  (View.readCov_cons_toLoadRect _ _ _ _).trans (congrArg (mN (Q (arg2.view.read (Elt F) (harg2.unread x0)) 1) (KS (arg6.view.read (Elt F) (harg6.unread x4)) 1 0) (KC (arg5.view.read (Elt F) (harg5.unread x3)) 1 0)) (m_1_0 c arg2 harg2 arg5 harg5 arg6 harg6 arg14 harg14 x0 x3 x4 xs0))

/-- What head 1 loads as the running denominator after 1 chunks of the block. -/
theorem l_1_1 : kernelRun0_B.sl.v515 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 1 :=
  (View.readCov_cons_toLoadRect _ _ _ _).trans (congrArg₂ (lN (Q (arg2.view.read (Elt F) (harg2.unread x0)) 1) (KS (arg6.view.read (Elt F) (harg6.unread x4)) 1 0) (KC (arg5.view.read (Elt F) (harg5.unread x3)) 1 0)) (m_1_0 c arg2 harg2 arg5 harg5 arg6 harg6 arg14 harg14 x0 x3 x4 xs0) (l_1_0 c arg2 harg2 arg5 harg5 arg6 harg6 arg14 harg14 arg15 harg15 x0 x3 x4 xs0 xs1))

/-- What head 1 loads as the weighted sum after 1 chunks of the block. -/
theorem a_1_1 : kernelRun0_B.sl.v526 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 1 :=
  (View.readCov_cons_toLoadRect _ _ _ _).trans ((aN_split (Q (arg2.view.read (Elt F) (harg2.unread x0)) 1) (KS (arg6.view.read (Elt F) (harg6.unread x4)) 1 0) (KC (arg5.view.read (Elt F) (harg5.unread x3)) 1 0) (KS (arg8.view.read (Elt F) (harg8.unread x6)) 1 0) (KC (arg7.view.read (Elt F) (harg7.unread x5)) 1 0) (kernelRun0_B.sl.v452 c arg14 harg14 xs0) (kernelRun0_B.sl.v473 c arg16 harg16 xs2)).trans (congrArg₂ (aN (Q (arg2.view.read (Elt F) (harg2.unread x0)) 1) (KS (arg6.view.read (Elt F) (harg6.unread x4)) 1 0) (KC (arg5.view.read (Elt F) (harg5.unread x3)) 1 0) (KS (arg8.view.read (Elt F) (harg8.unread x6)) 1 0) (KC (arg7.view.read (Elt F) (harg7.unread x5)) 1 0)) (m_1_0 c arg2 harg2 arg5 harg5 arg6 harg6 arg14 harg14 x0 x3 x4 xs0) (a_1_0 c arg2 harg2 arg5 harg5 arg6 harg6 arg7 harg7 arg8 harg8 arg14 harg14 arg16 harg16 x0 x3 x4 x5 x6 xs0 xs2)))

/-- What head 1 loads as the running maximum after 2 chunks of the block. -/
theorem m_1_2 : kernelRun0_B.sl.v558 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 1 (M1 (arg14.view.read (Elt F) (harg14.unread xs0)) 1) 2 :=
  (View.readCov_cons_toLoadRect _ _ _ _).trans (congrArg (mN (Q (arg2.view.read (Elt F) (harg2.unread x0)) 1) (KS (arg6.view.read (Elt F) (harg6.unread x4)) 1 1) (KC (arg5.view.read (Elt F) (harg5.unread x3)) 1 1)) (m_1_1 c arg2 harg2 arg5 harg5 arg6 harg6 arg14 harg14 x0 x3 x4 xs0))

/-- What head 1 loads as the running denominator after 2 chunks of the block. -/
theorem l_1_2 : kernelRun0_B.sl.v568 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 2 :=
  (View.readCov_cons_toLoadRect _ _ _ _).trans (congrArg₂ (lN (Q (arg2.view.read (Elt F) (harg2.unread x0)) 1) (KS (arg6.view.read (Elt F) (harg6.unread x4)) 1 1) (KC (arg5.view.read (Elt F) (harg5.unread x3)) 1 1)) (m_1_1 c arg2 harg2 arg5 harg5 arg6 harg6 arg14 harg14 x0 x3 x4 xs0) (l_1_1 c arg2 harg2 arg5 harg5 arg6 harg6 arg14 harg14 arg15 harg15 x0 x3 x4 xs0 xs1))

/-- What head 1 loads as the weighted sum after 2 chunks of the block. -/
theorem a_1_2 : kernelRun0_B.sl.v579 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 2 :=
  (View.readCov_cons_toLoadRect _ _ _ _).trans (congrArg₂ (aN (Q (arg2.view.read (Elt F) (harg2.unread x0)) 1) (KS (arg6.view.read (Elt F) (harg6.unread x4)) 1 1) (KC (arg5.view.read (Elt F) (harg5.unread x3)) 1 1) (KS (arg8.view.read (Elt F) (harg8.unread x6)) 1 1) (KC (arg7.view.read (Elt F) (harg7.unread x5)) 1 1)) (m_1_1 c arg2 harg2 arg5 harg5 arg6 harg6 arg14 harg14 x0 x3 x4 xs0) (a_1_1 c arg2 harg2 arg5 harg5 arg6 harg6 arg7 harg7 arg8 harg8 arg14 harg14 arg16 harg16 x0 x3 x4 x5 x6 xs0 xs2))

/-- What head 1 loads as the running maximum after 3 chunks of the block. -/
theorem m_1_3 : kernelRun0_B.sl.v611 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 1 (M1 (arg14.view.read (Elt F) (harg14.unread xs0)) 1) 3 :=
  (View.readCov_cons_toLoadRect _ _ _ _).trans (congrArg (mN (Q (arg2.view.read (Elt F) (harg2.unread x0)) 1) (KS (arg6.view.read (Elt F) (harg6.unread x4)) 1 2) (KC (arg5.view.read (Elt F) (harg5.unread x3)) 1 2)) (m_1_2 c arg2 harg2 arg5 harg5 arg6 harg6 arg14 harg14 x0 x3 x4 xs0))

/-- What head 1 loads as the running denominator after 3 chunks of the block. -/
theorem l_1_3 : kernelRun0_B.sl.v621 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 3 :=
  (View.readCov_cons_toLoadRect _ _ _ _).trans (congrArg₂ (lN (Q (arg2.view.read (Elt F) (harg2.unread x0)) 1) (KS (arg6.view.read (Elt F) (harg6.unread x4)) 1 2) (KC (arg5.view.read (Elt F) (harg5.unread x3)) 1 2)) (m_1_2 c arg2 harg2 arg5 harg5 arg6 harg6 arg14 harg14 x0 x3 x4 xs0) (l_1_2 c arg2 harg2 arg5 harg5 arg6 harg6 arg14 harg14 arg15 harg15 x0 x3 x4 xs0 xs1))

/-- What head 1 loads as the weighted sum after 3 chunks of the block. -/
theorem a_1_3 : kernelRun0_B.sl.v632 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 3 :=
  (View.readCov_cons_toLoadRect _ _ _ _).trans (congrArg₂ (aN (Q (arg2.view.read (Elt F) (harg2.unread x0)) 1) (KS (arg6.view.read (Elt F) (harg6.unread x4)) 1 2) (KC (arg5.view.read (Elt F) (harg5.unread x3)) 1 2) (KS (arg8.view.read (Elt F) (harg8.unread x6)) 1 2) (KC (arg7.view.read (Elt F) (harg7.unread x5)) 1 2)) (m_1_2 c arg2 harg2 arg5 harg5 arg6 harg6 arg14 harg14 x0 x3 x4 xs0) (a_1_2 c arg2 harg2 arg5 harg5 arg6 harg6 arg7 harg7 arg8 harg8 arg14 harg14 arg16 harg16 x0 x3 x4 x5 x6 xs0 xs2))

/-- What head 1 loads as the running maximum after 4 chunks of the block. -/
theorem m_1_4 : kernelRun0_B.sl.v664 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 1 (M1 (arg14.view.read (Elt F) (harg14.unread xs0)) 1) 4 :=
  (View.readCov_cons_toLoadRect _ _ _ _).trans (congrArg (mN (Q (arg2.view.read (Elt F) (harg2.unread x0)) 1) (KS (arg6.view.read (Elt F) (harg6.unread x4)) 1 3) (KC (arg5.view.read (Elt F) (harg5.unread x3)) 1 3)) (m_1_3 c arg2 harg2 arg5 harg5 arg6 harg6 arg14 harg14 x0 x3 x4 xs0))

/-- What head 1 loads as the running denominator after 4 chunks of the block. -/
theorem l_1_4 : kernelRun0_B.sl.v674 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 4 :=
  (View.readCov_cons_toLoadRect _ _ _ _).trans (congrArg₂ (lN (Q (arg2.view.read (Elt F) (harg2.unread x0)) 1) (KS (arg6.view.read (Elt F) (harg6.unread x4)) 1 3) (KC (arg5.view.read (Elt F) (harg5.unread x3)) 1 3)) (m_1_3 c arg2 harg2 arg5 harg5 arg6 harg6 arg14 harg14 x0 x3 x4 xs0) (l_1_3 c arg2 harg2 arg5 harg5 arg6 harg6 arg14 harg14 arg15 harg15 x0 x3 x4 xs0 xs1))

/-- What head 1 loads as the weighted sum after 4 chunks of the block. -/
theorem a_1_4 : kernelRun0_B.sl.v685 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 4 :=
  (View.readCov_cons_toLoadRect _ _ _ _).trans (congrArg₂ (aN (Q (arg2.view.read (Elt F) (harg2.unread x0)) 1) (KS (arg6.view.read (Elt F) (harg6.unread x4)) 1 3) (KC (arg5.view.read (Elt F) (harg5.unread x3)) 1 3) (KS (arg8.view.read (Elt F) (harg8.unread x6)) 1 3) (KC (arg7.view.read (Elt F) (harg7.unread x5)) 1 3)) (m_1_3 c arg2 harg2 arg5 harg5 arg6 harg6 arg14 harg14 x0 x3 x4 xs0) (a_1_3 c arg2 harg2 arg5 harg5 arg6 harg6 arg7 harg7 arg8 harg8 arg14 harg14 arg16 harg16 x0 x3 x4 x5 x6 xs0 xs2))

/-- What head 1 loads as the running maximum after 5 chunks of the block. -/
theorem m_1_5 : kernelRun0_B.sl.v717 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 1 (M1 (arg14.view.read (Elt F) (harg14.unread xs0)) 1) 5 :=
  (View.readCov_cons_toLoadRect _ _ _ _).trans (congrArg (mN (Q (arg2.view.read (Elt F) (harg2.unread x0)) 1) (KS (arg6.view.read (Elt F) (harg6.unread x4)) 1 4) (KC (arg5.view.read (Elt F) (harg5.unread x3)) 1 4)) (m_1_4 c arg2 harg2 arg5 harg5 arg6 harg6 arg14 harg14 x0 x3 x4 xs0))

/-- What head 1 loads as the running denominator after 5 chunks of the block. -/
theorem l_1_5 : kernelRun0_B.sl.v727 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 5 :=
  (View.readCov_cons_toLoadRect _ _ _ _).trans (congrArg₂ (lN (Q (arg2.view.read (Elt F) (harg2.unread x0)) 1) (KS (arg6.view.read (Elt F) (harg6.unread x4)) 1 4) (KC (arg5.view.read (Elt F) (harg5.unread x3)) 1 4)) (m_1_4 c arg2 harg2 arg5 harg5 arg6 harg6 arg14 harg14 x0 x3 x4 xs0) (l_1_4 c arg2 harg2 arg5 harg5 arg6 harg6 arg14 harg14 arg15 harg15 x0 x3 x4 xs0 xs1))

/-- What head 1 loads as the weighted sum after 5 chunks of the block. -/
theorem a_1_5 : kernelRun0_B.sl.v738 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 5 :=
  (View.readCov_cons_toLoadRect _ _ _ _).trans (congrArg₂ (aN (Q (arg2.view.read (Elt F) (harg2.unread x0)) 1) (KS (arg6.view.read (Elt F) (harg6.unread x4)) 1 4) (KC (arg5.view.read (Elt F) (harg5.unread x3)) 1 4) (KS (arg8.view.read (Elt F) (harg8.unread x6)) 1 4) (KC (arg7.view.read (Elt F) (harg7.unread x5)) 1 4)) (m_1_4 c arg2 harg2 arg5 harg5 arg6 harg6 arg14 harg14 x0 x3 x4 xs0) (a_1_4 c arg2 harg2 arg5 harg5 arg6 harg6 arg7 harg7 arg8 harg8 arg14 harg14 arg16 harg16 x0 x3 x4 x5 x6 xs0 xs2))

/-- What head 1 loads as the running maximum after 6 chunks of the block. -/
theorem m_1_6 : kernelRun0_B.sl.v770 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 1 (M1 (arg14.view.read (Elt F) (harg14.unread xs0)) 1) 6 :=
  (View.readCov_cons_toLoadRect _ _ _ _).trans (congrArg (mN (Q (arg2.view.read (Elt F) (harg2.unread x0)) 1) (KS (arg6.view.read (Elt F) (harg6.unread x4)) 1 5) (KC (arg5.view.read (Elt F) (harg5.unread x3)) 1 5)) (m_1_5 c arg2 harg2 arg5 harg5 arg6 harg6 arg14 harg14 x0 x3 x4 xs0))

/-- What head 1 loads as the running denominator after 6 chunks of the block. -/
theorem l_1_6 : kernelRun0_B.sl.v780 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 6 :=
  (View.readCov_cons_toLoadRect _ _ _ _).trans (congrArg₂ (lN (Q (arg2.view.read (Elt F) (harg2.unread x0)) 1) (KS (arg6.view.read (Elt F) (harg6.unread x4)) 1 5) (KC (arg5.view.read (Elt F) (harg5.unread x3)) 1 5)) (m_1_5 c arg2 harg2 arg5 harg5 arg6 harg6 arg14 harg14 x0 x3 x4 xs0) (l_1_5 c arg2 harg2 arg5 harg5 arg6 harg6 arg14 harg14 arg15 harg15 x0 x3 x4 xs0 xs1))

/-- What head 1 loads as the weighted sum after 6 chunks of the block. -/
theorem a_1_6 : kernelRun0_B.sl.v791 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 6 :=
  (View.readCov_cons_toLoadRect _ _ _ _).trans (congrArg₂ (aN (Q (arg2.view.read (Elt F) (harg2.unread x0)) 1) (KS (arg6.view.read (Elt F) (harg6.unread x4)) 1 5) (KC (arg5.view.read (Elt F) (harg5.unread x3)) 1 5) (KS (arg8.view.read (Elt F) (harg8.unread x6)) 1 5) (KC (arg7.view.read (Elt F) (harg7.unread x5)) 1 5)) (m_1_5 c arg2 harg2 arg5 harg5 arg6 harg6 arg14 harg14 x0 x3 x4 xs0) (a_1_5 c arg2 harg2 arg5 harg5 arg6 harg6 arg7 harg7 arg8 harg8 arg14 harg14 arg16 harg16 x0 x3 x4 x5 x6 xs0 xs2))

/-- What head 1 loads as the running maximum after 7 chunks of the block. -/
theorem m_1_7 : kernelRun0_B.sl.v823 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 1 (M1 (arg14.view.read (Elt F) (harg14.unread xs0)) 1) 7 :=
  (View.readCov_cons_toLoadRect _ _ _ _).trans (congrArg (mN (Q (arg2.view.read (Elt F) (harg2.unread x0)) 1) (KS (arg6.view.read (Elt F) (harg6.unread x4)) 1 6) (KC (arg5.view.read (Elt F) (harg5.unread x3)) 1 6)) (m_1_6 c arg2 harg2 arg5 harg5 arg6 harg6 arg14 harg14 x0 x3 x4 xs0))

/-- What head 1 loads as the running denominator after 7 chunks of the block. -/
theorem l_1_7 : kernelRun0_B.sl.v833 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 7 :=
  (View.readCov_cons_toLoadRect _ _ _ _).trans (congrArg₂ (lN (Q (arg2.view.read (Elt F) (harg2.unread x0)) 1) (KS (arg6.view.read (Elt F) (harg6.unread x4)) 1 6) (KC (arg5.view.read (Elt F) (harg5.unread x3)) 1 6)) (m_1_6 c arg2 harg2 arg5 harg5 arg6 harg6 arg14 harg14 x0 x3 x4 xs0) (l_1_6 c arg2 harg2 arg5 harg5 arg6 harg6 arg14 harg14 arg15 harg15 x0 x3 x4 xs0 xs1))

/-- What head 1 loads as the weighted sum after 7 chunks of the block. -/
theorem a_1_7 : kernelRun0_B.sl.v844 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 7 :=
  (View.readCov_cons_toLoadRect _ _ _ _).trans (congrArg₂ (aN (Q (arg2.view.read (Elt F) (harg2.unread x0)) 1) (KS (arg6.view.read (Elt F) (harg6.unread x4)) 1 6) (KC (arg5.view.read (Elt F) (harg5.unread x3)) 1 6) (KS (arg8.view.read (Elt F) (harg8.unread x6)) 1 6) (KC (arg7.view.read (Elt F) (harg7.unread x5)) 1 6)) (m_1_6 c arg2 harg2 arg5 harg5 arg6 harg6 arg14 harg14 x0 x3 x4 xs0) (a_1_6 c arg2 harg2 arg5 harg5 arg6 harg6 arg7 harg7 arg8 harg8 arg14 harg14 arg16 harg16 x0 x3 x4 x5 x6 xs0 xs2))

/-- What a point leaves as the running maximum of head 0. -/
theorem M_0 : M1 (sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2) 0
    = mC (arg2.view.read (Elt F) (harg2.unread x0)) (arg5.view.read (Elt F) (harg5.unread x3)) (arg6.view.read (Elt F) (harg6.unread x4)) 0 (M1 (arg14.view.read (Elt F) (harg14.unread xs0)) 0) 8 :=
  (congrArg (fun z => M1 z 0) (View.read_writes_junk_eq_canon _ _)).trans <| (View.readCov_eq_canon' arg14.view _ (Rect.unit (s := S2x64x1) ![0, 0, 0] S1x64x1.size inb_S2x64x1_S1x64x1_0_0_0).toLoadRect).symm.trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_cons_toLoadRect _ _ _ _).trans (congrArg (mN (Q (arg2.view.read (Elt F) (harg2.unread x0)) 0) (KS (arg6.view.read (Elt F) (harg6.unread x4)) 0 7) (KC (arg5.view.read (Elt F) (harg5.unread x3)) 0 7)) (m_0_7 c arg2 harg2 arg5 harg5 arg6 harg6 arg14 harg14 x0 x3 x4 xs0))

/-- What a point leaves as the running maximum of head 1. -/
theorem M_1 : M1 (sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2) 1
    = mC (arg2.view.read (Elt F) (harg2.unread x0)) (arg5.view.read (Elt F) (harg5.unread x3)) (arg6.view.read (Elt F) (harg6.unread x4)) 1 (M1 (arg14.view.read (Elt F) (harg14.unread xs0)) 1) 8 :=
  (congrArg (fun z => M1 z 1) (View.read_writes_junk_eq_canon _ _)).trans <| (View.readCov_eq_canon' arg14.view _ (Rect.unit (s := S2x64x1) ![1, 0, 0] S1x64x1.size inb_S2x64x1_S1x64x1_1_0_0).toLoadRect).symm.trans <| (View.readCov_cons_toLoadRect _ _ _ _).trans (congrArg (mN (Q (arg2.view.read (Elt F) (harg2.unread x0)) 1) (KS (arg6.view.read (Elt F) (harg6.unread x4)) 1 7) (KC (arg5.view.read (Elt F) (harg5.unread x3)) 1 7)) (m_1_7 c arg2 harg2 arg5 harg5 arg6 harg6 arg14 harg14 x0 x3 x4 xs0))

/-- What a point leaves as the running denominator of head 0. -/
theorem L_0 : M1 (sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2) 0
    = lC (arg2.view.read (Elt F) (harg2.unread x0)) (arg5.view.read (Elt F) (harg5.unread x3)) (arg6.view.read (Elt F) (harg6.unread x4)) 0 (M1 (arg14.view.read (Elt F) (harg14.unread xs0)) 0) (M1 (arg15.view.read (Elt F) (harg15.unread xs1)) 0) 8 :=
  (congrArg (fun z => M1 z 0) (View.read_writes_junk_eq_canon _ _)).trans <| (View.readCov_eq_canon' arg15.view _ (Rect.unit (s := S2x64x1) ![0, 0, 0] S1x64x1.size inb_S2x64x1_S1x64x1_0_0_0).toLoadRect).symm.trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_cons_toLoadRect _ _ _ _).trans (congrArg₂ (lN (Q (arg2.view.read (Elt F) (harg2.unread x0)) 0) (KS (arg6.view.read (Elt F) (harg6.unread x4)) 0 7) (KC (arg5.view.read (Elt F) (harg5.unread x3)) 0 7)) (m_0_7 c arg2 harg2 arg5 harg5 arg6 harg6 arg14 harg14 x0 x3 x4 xs0) (l_0_7 c arg2 harg2 arg5 harg5 arg6 harg6 arg14 harg14 arg15 harg15 x0 x3 x4 xs0 xs1))

/-- What a point leaves as the running denominator of head 1. -/
theorem L_1 : M1 (sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2) 1
    = lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 8 :=
  (congrArg (fun z => M1 z 1) (View.read_writes_junk_eq_canon _ _)).trans <| (View.readCov_eq_canon' arg15.view _ (Rect.unit (s := S2x64x1) ![1, 0, 0] S1x64x1.size inb_S2x64x1_S1x64x1_1_0_0).toLoadRect).symm.trans <| (View.readCov_cons_toLoadRect _ _ _ _).trans (congrArg₂ (lN (Q (arg2.view.read (Elt F) (harg2.unread x0)) 1) (KS (arg6.view.read (Elt F) (harg6.unread x4)) 1 7) (KC (arg5.view.read (Elt F) (harg5.unread x3)) 1 7)) (m_1_7 c arg2 harg2 arg5 harg5 arg6 harg6 arg14 harg14 x0 x3 x4 xs0) (l_1_7 c arg2 harg2 arg5 harg5 arg6 harg6 arg14 harg14 arg15 harg15 x0 x3 x4 xs0 xs1))

/-- What a point leaves as the weighted sum of head 0. -/
theorem A_0 : A1 (sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2) 0
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 (arg14.view.read (Elt F) (harg14.unread xs0)) 0) (A1 (arg16.view.read (Elt F) (harg16.unread xs2)) 0) 8 :=
  (congrArg (fun z => A1 z 0) (View.read_writes_junk_eq_canon _ _)).trans <| (View.readCov_eq_canon' arg16.view _ (Rect.unit (s := S2x64x128) ![0, 0, 0] S1x64x128.size inb_S2x64x128_S1x64x128_0_0_0).toLoadRect).symm.trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_cons_toLoadRect _ _ _ _).trans (congrArg₂ (aN (Q (arg2.view.read (Elt F) (harg2.unread x0)) 0) (KS (arg6.view.read (Elt F) (harg6.unread x4)) 0 7) (KC (arg5.view.read (Elt F) (harg5.unread x3)) 0 7) (KS (arg8.view.read (Elt F) (harg8.unread x6)) 0 7) (KC (arg7.view.read (Elt F) (harg7.unread x5)) 0 7)) (m_0_7 c arg2 harg2 arg5 harg5 arg6 harg6 arg14 harg14 x0 x3 x4 xs0) (a_0_7 c arg2 harg2 arg5 harg5 arg6 harg6 arg7 harg7 arg8 harg8 arg14 harg14 arg16 harg16 x0 x3 x4 x5 x6 xs0 xs2))

/-- What a point leaves as the weighted sum of head 1. -/
theorem A_1 : A1 (sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2) 1
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 8 :=
  (congrArg (fun z => A1 z 1) (View.read_writes_junk_eq_canon _ _)).trans <| (View.readCov_eq_canon' arg16.view _ (Rect.unit (s := S2x64x128) ![1, 0, 0] S1x64x128.size inb_S2x64x128_S1x64x128_1_0_0).toLoadRect).symm.trans <| (View.readCov_cons_toLoadRect _ _ _ _).trans (congrArg₂ (aN (Q (arg2.view.read (Elt F) (harg2.unread x0)) 1) (KS (arg6.view.read (Elt F) (harg6.unread x4)) 1 7) (KC (arg5.view.read (Elt F) (harg5.unread x3)) 1 7) (KS (arg8.view.read (Elt F) (harg8.unread x6)) 1 7) (KC (arg7.view.read (Elt F) (harg7.unread x5)) 1 7)) (m_1_7 c arg2 harg2 arg5 harg5 arg6 harg6 arg14 harg14 x0 x3 x4 xs0) (a_1_7 c arg2 harg2 arg5 harg5 arg6 harg6 arg7 harg7 arg8 harg8 arg14 harg14 arg16 harg16 x0 x3 x4 x5 x6 xs0 xs2))

end Cert.KernelIdeal.BodyB

end
-- ==== Proof.Tail.lean ====
module
public import proofs.«01_k».proof.Proof.Chunk
@[expose] public section

set_option maxRecDepth 16384

noncomputable section

namespace Cert.KernelIdeal.Chunk

open Idealize.ShloMosaic Cert.KernelIdeal Cert.KernelIdeal.Gen

variable {F : FTy → Type} [FloatOps F]

/-- Head `h`'s rows of a block of new tokens. -/
def KN (x1 : Vec F S1x2x4x128 .bf16) (h : ℕ) : Vec F S1x1x4x128 .bf16 :=
  View.ld x1 (Rect.unit ![0, h % 2, 0, 0] S1x1x4x128.size (by
    have := Nat.mod_lt h (show 0 < 2 by decide)
    intro a; fin_cases a <;> simp [S1x1x4x128, S1x2x4x128] <;> omega))

/-- The number 127 as the body names it. -/
def c127 : F .f32 := FloatOps.ofBits FTy.f32 1123942400#32

/-- The scale of each new token. -/
def qS (kn : Vec F S1x1x4x128 .bf16) : FVec F S4x1 .f32 := k0_pay5 kn

/-- The codes of each new token. -/
def qC (kn : Vec F S1x1x4x128 .bf16) : IVec S4x128 8 := k0_pay7 c127 (k0_pay6 kn)

/-- The token a column of the new scores is for. -/
def colTok : IVec S64x4 32 := iota Kind.tc S64x4 32 [1] iota_S64x4_d1_w32

/-- The masked scores of the new tokens. -/
def sT (q : Vec F S1x1x64x128 .bf16) (kn : Vec F S1x1x4x128 .bf16) : FVec F S64x4 .f32 :=
  k0_pay16 k0_pay3 colTok (qS kn) (qC kn) q

/-- The running maximum after the new tokens. -/
def mT (q : Vec F S1x1x64x128 .bf16) (kn : Vec F S1x1x4x128 .bf16) (m : Vec F S1x64x1 .f32) :
    FVec F S64x1 .f32 :=
  k0_pay18 k0_pay3 colTok (qS kn) (qC kn) q m

/-- The running denominator after the new tokens. -/
def lT (q : Vec F S1x1x64x128 .bf16) (kn : Vec F S1x1x4x128 .bf16) (m l : Vec F S1x64x1 .f32) :
    Vec F S1x64x1 .f32 :=
  k0_pay21 k0_pay3 colTok (qS kn) (qC kn) q m l

/-- The running weighted sum after the new tokens. -/
def aT (q : Vec F S1x1x64x128 .bf16) (kn vn : Vec F S1x1x4x128 .bf16) (m : Vec F S1x64x1 .f32)
    (a : Vec F S1x64x128 .f32) : Vec F S1x64x128 .f32 :=
  k0_pay23 (k0_pay15 (qS vn) (qC vn)) (k0_pay20 k0_pay3 colTok (qS kn) (qC kn) q m)
    (k0_pay22 k0_pay3 colTok (qS kn) (qC kn) q m) a

/-- A head's rows of the result. -/
def yT (a : Vec F S1x64x128 .f32) (l : Vec F S1x64x1 .f32) : Vec F S1x1x64x128 .bf16 := k0_pay25 a l

/-- A head's codes, as stored. -/
def oC (kn : Vec F S1x1x4x128 .bf16) : IVec S1x1x4x128 8 :=
  shapeCast S1x1x4x128 (qC kn) shapeCasts_S4x128_S1x1x4x128

/-- A head's scales, as stored. -/
def oS (kn : Vec F S1x1x4x128 .bf16) : FVec F S1x1x4x1 .f32 := k0_pay13 (qS kn)

/-- The values' quantiser is the keys'. -/
theorem pay9_eq (kn : Vec F S1x1x4x128 .bf16) : k0_pay9 kn = qS kn := rfl

/-- The values' codes are found as the keys' are. -/
theorem pay10_eq (kn : Vec F S1x1x4x128 .bf16) : k0_pay10 kn = qC kn := rfl

/-- Head 1's key scales are found as head 0's are. -/
theorem pay29_eq (kn : Vec F S1x1x4x128 .bf16) :
    k0_pay29 (k0_pay27 kn) (k0_pay28 kn) c127 = qS kn := rfl

/-- Head 1's key codes are found as head 0's are. -/
theorem pay30_eq (kn : Vec F S1x1x4x128 .bf16) :
    k0_pay30 (k0_pay26 kn) (k0_pay27 kn) (k0_pay28 kn) c127 = qC kn := rfl

/-- Head 1's value scales are found as head 0's are. -/
theorem pay32_eq (kn : Vec F S1x1x4x128 .bf16) : k0_pay32 kn = qS kn := rfl

/-- Head 1's value codes are found as head 0's are. -/
theorem pay33_eq (kn : Vec F S1x1x4x128 .bf16) : k0_pay33 kn = qC kn := rfl

/-- Head 0's denominator over the new tokens. -/
theorem lT0 (q : Vec F S1x1x64x128 .bf16) (kn : Vec F S1x1x4x128 .bf16) (m l : Vec F S1x64x1 .f32) :
    k0_pay21 k0_pay3 colTok (k0_pay5 kn) (k0_pay7 c127 (k0_pay6 kn)) q m l = lT q kn m l := rfl

/-- Head 0's weighted sum over the new tokens. -/
theorem aT0 (q : Vec F S1x1x64x128 .bf16) (kn vn : Vec F S1x1x4x128 .bf16) (m : Vec F S1x64x1 .f32)
    (a : Vec F S1x64x128 .f32) :
    k0_pay23 (k0_pay15 (k0_pay9 vn) (k0_pay10 vn))
      (k0_pay20 k0_pay3 colTok (k0_pay5 kn) (k0_pay7 c127 (k0_pay6 kn)) q m)
      (k0_pay22 k0_pay3 colTok (k0_pay5 kn) (k0_pay7 c127 (k0_pay6 kn)) q m) a = aT q kn vn m a := by
  rw [pay9_eq, pay10_eq]; rfl

/-- Head 1's denominator over the new tokens. -/
theorem lT1 (q : Vec F S1x1x64x128 .bf16) (kn : Vec F S1x1x4x128 .bf16) (m l : Vec F S1x64x1 .f32) :
    k0_pay45
      (k0_pay42 k0_pay3 colTok (k0_pay29 (k0_pay27 kn) (k0_pay28 kn) c127)
        (k0_pay30 (k0_pay26 kn) (k0_pay27 kn) (k0_pay28 kn) c127) q m)
      (k0_pay44 k0_pay3 colTok (k0_pay29 (k0_pay27 kn) (k0_pay28 kn) c127)
        (k0_pay30 (k0_pay26 kn) (k0_pay27 kn) (k0_pay28 kn) c127) q m l) = lT q kn m l := by
  rw [pay29_eq, pay30_eq]; rfl

/-- Head 1's weighted sum over the new tokens. -/
theorem aT1 (q : Vec F S1x1x64x128 .bf16) (kn vn : Vec F S1x1x4x128 .bf16) (m : Vec F S1x64x1 .f32)
    (a : Vec F S1x64x128 .f32) :
    k0_pay46 (k0_pay38 (k0_pay32 vn) (k0_pay33 vn))
      (k0_pay42 k0_pay3 colTok (k0_pay29 (k0_pay27 kn) (k0_pay28 kn) c127)
        (k0_pay30 (k0_pay26 kn) (k0_pay27 kn) (k0_pay28 kn) c127) q m)
      (k0_pay43 k0_pay3 colTok (k0_pay29 (k0_pay27 kn) (k0_pay28 kn) c127)
        (k0_pay30 (k0_pay26 kn) (k0_pay27 kn) (k0_pay28 kn) c127) q m) a = aT q kn vn m a := by
  rw [pay29_eq, pay30_eq, pay32_eq, pay33_eq]; rfl

/-- Head 1's rows of the result are formed as head 0's are. -/
theorem yT1 (a : Vec F S1x64x128 .f32) (l : Vec F S1x64x1 .f32) : k0_pay2 (k0_pay48 a l) = yT a l := rfl

end Cert.KernelIdeal.Chunk

end
-- ==== Proof.BodyC.lean ====
module
public import proofs.«01_k».proof.Proof.Gen.KernelIdeal.Frame
public import proofs.«01_k».proof.Proof.Chunk
public import proofs.«01_k».proof.Proof.Tail
@[expose] public section

set_option maxRecDepth 16384
set_option maxHeartbeats 2000000

noncomputable section

namespace Cert.KernelIdeal.BodyC

open Idealize.ShloMosaic Idealize.ShloMosaic.TcCoe Idealize.ShloMosaic.Tactic
open Cert.KernelIdeal Cert.KernelIdeal.Gen Cert.KernelIdeal.Chunk

variable {F : FTy → Type} [FloatOps F]

variable (c : Dev nD) (i : grid0.Coords) (arg2 : Memref sig .tc .vmem S1x2x64x128 .bf16) (harg2 : arg2.IsWhole) (arg3 : Memref sig .tc .vmem S1x2x4x128 .bf16) (harg3 : arg3.IsWhole) (arg4 : Memref sig .tc .vmem S1x2x4x128 .bf16) (harg4 : arg4.IsWhole) (arg5 : Memref sig .tc .vmem S1x2x4096x128 .i8) (harg5 : arg5.IsWhole) (arg6 : Memref sig .tc .vmem S1x2x4096 .f32) (harg6 : arg6.IsWhole) (arg7 : Memref sig .tc .vmem S1x2x4096x128 .i8) (harg7 : arg7.IsWhole) (arg8 : Memref sig .tc .vmem S1x2x4096 .f32) (harg8 : arg8.IsWhole) (arg9 : Memref sig .tc .vmem S1x2x64x128 .bf16) (harg9 : arg9.IsWhole) (arg10 : Memref sig .tc .vmem S1x2x4x128 .i8) (harg10 : arg10.IsWhole) (arg11 : Memref sig .tc .vmem S1x2x4x1 .f32) (harg11 : arg11.IsWhole) (arg12 : Memref sig .tc .vmem S1x2x4x128 .i8) (harg12 : arg12.IsWhole) (arg13 : Memref sig .tc .vmem S1x2x4x1 .f32) (harg13 : arg13.IsWhole) (arg14 : Memref sig .tc .vmem S2x64x1 .f32) (harg14 : arg14.IsWhole) (arg15 : Memref sig .tc .vmem S2x64x1 .f32) (harg15 : arg15.IsWhole) (arg16 : Memref sig .tc .vmem S2x64x128 .f32) (harg16 : arg16.IsWhole)
  (hc0 : ¬cond0_0 i) (hc1 : cond0_1 i)
  (x0 : Vec F S1x2x64x128 .bf16) (x1 : Vec F S1x2x4x128 .bf16) (x2 : Vec F S1x2x4x128 .bf16) (x3 : Vec F S1x2x4096x128 .i8) (x4 : Vec F S1x2x4096 .f32) (x5 : Vec F S1x2x4096x128 .i8) (x6 : Vec F S1x2x4096 .f32) (xs0 : Vec F S2x64x1 .f32) (xs1 : Vec F S2x64x1 .f32) (xs2 : Vec F S2x64x128 .f32)

/-- What head 0 loads as the running maximum after 1 chunks of the block. -/
theorem m_0_1 : kernelRun0_C.sl.v79 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 0 (M1 (arg14.view.read (Elt F) (harg14.unread xs0)) 0) 1 :=
  (View.readCov_cons_toLoadRect _ _ _ _).trans (congrArg (mN (Q (arg2.view.read (Elt F) (harg2.unread x0)) 0) (KS (arg6.view.read (Elt F) (harg6.unread x4)) 0 0) (KC (arg5.view.read (Elt F) (harg5.unread x3)) 0 0)) rfl)

/-- What head 0 loads as the running denominator after 1 chunks of the block. -/
theorem l_0_1 : kernelRun0_C.sl.v89 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 0 (M1 (arg14.view.read (Elt F) (harg14.unread xs0)) 0) (M1 (arg15.view.read (Elt F) (harg15.unread xs1)) 0) 1 :=
  (View.readCov_cons_toLoadRect _ _ _ _).trans (congrArg₂ (lN (Q (arg2.view.read (Elt F) (harg2.unread x0)) 0) (KS (arg6.view.read (Elt F) (harg6.unread x4)) 0 0) (KC (arg5.view.read (Elt F) (harg5.unread x3)) 0 0)) rfl rfl)

/-- What head 0 loads as the weighted sum after 1 chunks of the block. -/
theorem a_0_1 : kernelRun0_C.sl.v100 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 (arg14.view.read (Elt F) (harg14.unread xs0)) 0) (A1 (arg16.view.read (Elt F) (harg16.unread xs2)) 0) 1 :=
  (View.readCov_cons_toLoadRect _ _ _ _).trans (congrArg₂ (aN (Q (arg2.view.read (Elt F) (harg2.unread x0)) 0) (KS (arg6.view.read (Elt F) (harg6.unread x4)) 0 0) (KC (arg5.view.read (Elt F) (harg5.unread x3)) 0 0) (KS (arg8.view.read (Elt F) (harg8.unread x6)) 0 0) (KC (arg7.view.read (Elt F) (harg7.unread x5)) 0 0)) rfl rfl)

/-- What head 0 loads as the running maximum after 2 chunks of the block. -/
theorem m_0_2 : kernelRun0_C.sl.v132 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 0 (M1 (arg14.view.read (Elt F) (harg14.unread xs0)) 0) 2 :=
  (View.readCov_cons_toLoadRect _ _ _ _).trans (congrArg (mN (Q (arg2.view.read (Elt F) (harg2.unread x0)) 0) (KS (arg6.view.read (Elt F) (harg6.unread x4)) 0 1) (KC (arg5.view.read (Elt F) (harg5.unread x3)) 0 1)) (m_0_1 c arg2 harg2 arg5 harg5 arg6 harg6 arg14 harg14 x0 x3 x4 xs0))

/-- What head 0 loads as the running denominator after 2 chunks of the block. -/
theorem l_0_2 : kernelRun0_C.sl.v142 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 0 (M1 (arg14.view.read (Elt F) (harg14.unread xs0)) 0) (M1 (arg15.view.read (Elt F) (harg15.unread xs1)) 0) 2 :=
  (View.readCov_cons_toLoadRect _ _ _ _).trans (congrArg₂ (lN (Q (arg2.view.read (Elt F) (harg2.unread x0)) 0) (KS (arg6.view.read (Elt F) (harg6.unread x4)) 0 1) (KC (arg5.view.read (Elt F) (harg5.unread x3)) 0 1)) (m_0_1 c arg2 harg2 arg5 harg5 arg6 harg6 arg14 harg14 x0 x3 x4 xs0) (l_0_1 c arg2 harg2 arg5 harg5 arg6 harg6 arg14 harg14 arg15 harg15 x0 x3 x4 xs0 xs1))

/-- What head 0 loads as the weighted sum after 2 chunks of the block. -/
theorem a_0_2 : kernelRun0_C.sl.v153 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 (arg14.view.read (Elt F) (harg14.unread xs0)) 0) (A1 (arg16.view.read (Elt F) (harg16.unread xs2)) 0) 2 :=
  (View.readCov_cons_toLoadRect _ _ _ _).trans (congrArg₂ (aN (Q (arg2.view.read (Elt F) (harg2.unread x0)) 0) (KS (arg6.view.read (Elt F) (harg6.unread x4)) 0 1) (KC (arg5.view.read (Elt F) (harg5.unread x3)) 0 1) (KS (arg8.view.read (Elt F) (harg8.unread x6)) 0 1) (KC (arg7.view.read (Elt F) (harg7.unread x5)) 0 1)) (m_0_1 c arg2 harg2 arg5 harg5 arg6 harg6 arg14 harg14 x0 x3 x4 xs0) (a_0_1 c arg2 harg2 arg5 harg5 arg6 harg6 arg7 harg7 arg8 harg8 arg14 harg14 arg16 harg16 x0 x3 x4 x5 x6 xs0 xs2))

/-- What head 0 loads as the running maximum after 3 chunks of the block. -/
theorem m_0_3 : kernelRun0_C.sl.v185 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 0 (M1 (arg14.view.read (Elt F) (harg14.unread xs0)) 0) 3 :=
  (View.readCov_cons_toLoadRect _ _ _ _).trans (congrArg (mN (Q (arg2.view.read (Elt F) (harg2.unread x0)) 0) (KS (arg6.view.read (Elt F) (harg6.unread x4)) 0 2) (KC (arg5.view.read (Elt F) (harg5.unread x3)) 0 2)) (m_0_2 c arg2 harg2 arg5 harg5 arg6 harg6 arg14 harg14 x0 x3 x4 xs0))

/-- What head 0 loads as the running denominator after 3 chunks of the block. -/
theorem l_0_3 : kernelRun0_C.sl.v195 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 0 (M1 (arg14.view.read (Elt F) (harg14.unread xs0)) 0) (M1 (arg15.view.read (Elt F) (harg15.unread xs1)) 0) 3 :=
  (View.readCov_cons_toLoadRect _ _ _ _).trans (congrArg₂ (lN (Q (arg2.view.read (Elt F) (harg2.unread x0)) 0) (KS (arg6.view.read (Elt F) (harg6.unread x4)) 0 2) (KC (arg5.view.read (Elt F) (harg5.unread x3)) 0 2)) (m_0_2 c arg2 harg2 arg5 harg5 arg6 harg6 arg14 harg14 x0 x3 x4 xs0) (l_0_2 c arg2 harg2 arg5 harg5 arg6 harg6 arg14 harg14 arg15 harg15 x0 x3 x4 xs0 xs1))

/-- What head 0 loads as the weighted sum after 3 chunks of the block. -/
theorem a_0_3 : kernelRun0_C.sl.v206 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 (arg14.view.read (Elt F) (harg14.unread xs0)) 0) (A1 (arg16.view.read (Elt F) (harg16.unread xs2)) 0) 3 :=
  (View.readCov_cons_toLoadRect _ _ _ _).trans (congrArg₂ (aN (Q (arg2.view.read (Elt F) (harg2.unread x0)) 0) (KS (arg6.view.read (Elt F) (harg6.unread x4)) 0 2) (KC (arg5.view.read (Elt F) (harg5.unread x3)) 0 2) (KS (arg8.view.read (Elt F) (harg8.unread x6)) 0 2) (KC (arg7.view.read (Elt F) (harg7.unread x5)) 0 2)) (m_0_2 c arg2 harg2 arg5 harg5 arg6 harg6 arg14 harg14 x0 x3 x4 xs0) (a_0_2 c arg2 harg2 arg5 harg5 arg6 harg6 arg7 harg7 arg8 harg8 arg14 harg14 arg16 harg16 x0 x3 x4 x5 x6 xs0 xs2))

/-- What head 0 loads as the running maximum after 4 chunks of the block. -/
theorem m_0_4 : kernelRun0_C.sl.v238 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 0 (M1 (arg14.view.read (Elt F) (harg14.unread xs0)) 0) 4 :=
  (View.readCov_cons_toLoadRect _ _ _ _).trans (congrArg (mN (Q (arg2.view.read (Elt F) (harg2.unread x0)) 0) (KS (arg6.view.read (Elt F) (harg6.unread x4)) 0 3) (KC (arg5.view.read (Elt F) (harg5.unread x3)) 0 3)) (m_0_3 c arg2 harg2 arg5 harg5 arg6 harg6 arg14 harg14 x0 x3 x4 xs0))

/-- What head 0 loads as the running denominator after 4 chunks of the block. -/
theorem l_0_4 : kernelRun0_C.sl.v248 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 0 (M1 (arg14.view.read (Elt F) (harg14.unread xs0)) 0) (M1 (arg15.view.read (Elt F) (harg15.unread xs1)) 0) 4 :=
  (View.readCov_cons_toLoadRect _ _ _ _).trans (congrArg₂ (lN (Q (arg2.view.read (Elt F) (harg2.unread x0)) 0) (KS (arg6.view.read (Elt F) (harg6.unread x4)) 0 3) (KC (arg5.view.read (Elt F) (harg5.unread x3)) 0 3)) (m_0_3 c arg2 harg2 arg5 harg5 arg6 harg6 arg14 harg14 x0 x3 x4 xs0) (l_0_3 c arg2 harg2 arg5 harg5 arg6 harg6 arg14 harg14 arg15 harg15 x0 x3 x4 xs0 xs1))

/-- What head 0 loads as the weighted sum after 4 chunks of the block. -/
theorem a_0_4 : kernelRun0_C.sl.v259 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 (arg14.view.read (Elt F) (harg14.unread xs0)) 0) (A1 (arg16.view.read (Elt F) (harg16.unread xs2)) 0) 4 :=
  (View.readCov_cons_toLoadRect _ _ _ _).trans (congrArg₂ (aN (Q (arg2.view.read (Elt F) (harg2.unread x0)) 0) (KS (arg6.view.read (Elt F) (harg6.unread x4)) 0 3) (KC (arg5.view.read (Elt F) (harg5.unread x3)) 0 3) (KS (arg8.view.read (Elt F) (harg8.unread x6)) 0 3) (KC (arg7.view.read (Elt F) (harg7.unread x5)) 0 3)) (m_0_3 c arg2 harg2 arg5 harg5 arg6 harg6 arg14 harg14 x0 x3 x4 xs0) (a_0_3 c arg2 harg2 arg5 harg5 arg6 harg6 arg7 harg7 arg8 harg8 arg14 harg14 arg16 harg16 x0 x3 x4 x5 x6 xs0 xs2))

/-- What head 0 loads as the running maximum after 5 chunks of the block. -/
theorem m_0_5 : kernelRun0_C.sl.v291 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 0 (M1 (arg14.view.read (Elt F) (harg14.unread xs0)) 0) 5 :=
  (View.readCov_cons_toLoadRect _ _ _ _).trans (congrArg (mN (Q (arg2.view.read (Elt F) (harg2.unread x0)) 0) (KS (arg6.view.read (Elt F) (harg6.unread x4)) 0 4) (KC (arg5.view.read (Elt F) (harg5.unread x3)) 0 4)) (m_0_4 c arg2 harg2 arg5 harg5 arg6 harg6 arg14 harg14 x0 x3 x4 xs0))

/-- What head 0 loads as the running denominator after 5 chunks of the block. -/
theorem l_0_5 : kernelRun0_C.sl.v301 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 0 (M1 (arg14.view.read (Elt F) (harg14.unread xs0)) 0) (M1 (arg15.view.read (Elt F) (harg15.unread xs1)) 0) 5 :=
  (View.readCov_cons_toLoadRect _ _ _ _).trans (congrArg₂ (lN (Q (arg2.view.read (Elt F) (harg2.unread x0)) 0) (KS (arg6.view.read (Elt F) (harg6.unread x4)) 0 4) (KC (arg5.view.read (Elt F) (harg5.unread x3)) 0 4)) (m_0_4 c arg2 harg2 arg5 harg5 arg6 harg6 arg14 harg14 x0 x3 x4 xs0) (l_0_4 c arg2 harg2 arg5 harg5 arg6 harg6 arg14 harg14 arg15 harg15 x0 x3 x4 xs0 xs1))

/-- What head 0 loads as the weighted sum after 5 chunks of the block. -/
theorem a_0_5 : kernelRun0_C.sl.v312 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 (arg14.view.read (Elt F) (harg14.unread xs0)) 0) (A1 (arg16.view.read (Elt F) (harg16.unread xs2)) 0) 5 :=
  (View.readCov_cons_toLoadRect _ _ _ _).trans (congrArg₂ (aN (Q (arg2.view.read (Elt F) (harg2.unread x0)) 0) (KS (arg6.view.read (Elt F) (harg6.unread x4)) 0 4) (KC (arg5.view.read (Elt F) (harg5.unread x3)) 0 4) (KS (arg8.view.read (Elt F) (harg8.unread x6)) 0 4) (KC (arg7.view.read (Elt F) (harg7.unread x5)) 0 4)) (m_0_4 c arg2 harg2 arg5 harg5 arg6 harg6 arg14 harg14 x0 x3 x4 xs0) (a_0_4 c arg2 harg2 arg5 harg5 arg6 harg6 arg7 harg7 arg8 harg8 arg14 harg14 arg16 harg16 x0 x3 x4 x5 x6 xs0 xs2))

/-- What head 0 loads as the running maximum after 6 chunks of the block. -/
theorem m_0_6 : kernelRun0_C.sl.v344 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 0 (M1 (arg14.view.read (Elt F) (harg14.unread xs0)) 0) 6 :=
  (View.readCov_cons_toLoadRect _ _ _ _).trans (congrArg (mN (Q (arg2.view.read (Elt F) (harg2.unread x0)) 0) (KS (arg6.view.read (Elt F) (harg6.unread x4)) 0 5) (KC (arg5.view.read (Elt F) (harg5.unread x3)) 0 5)) (m_0_5 c arg2 harg2 arg5 harg5 arg6 harg6 arg14 harg14 x0 x3 x4 xs0))

/-- What head 0 loads as the running denominator after 6 chunks of the block. -/
theorem l_0_6 : kernelRun0_C.sl.v354 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 0 (M1 (arg14.view.read (Elt F) (harg14.unread xs0)) 0) (M1 (arg15.view.read (Elt F) (harg15.unread xs1)) 0) 6 :=
  (View.readCov_cons_toLoadRect _ _ _ _).trans (congrArg₂ (lN (Q (arg2.view.read (Elt F) (harg2.unread x0)) 0) (KS (arg6.view.read (Elt F) (harg6.unread x4)) 0 5) (KC (arg5.view.read (Elt F) (harg5.unread x3)) 0 5)) (m_0_5 c arg2 harg2 arg5 harg5 arg6 harg6 arg14 harg14 x0 x3 x4 xs0) (l_0_5 c arg2 harg2 arg5 harg5 arg6 harg6 arg14 harg14 arg15 harg15 x0 x3 x4 xs0 xs1))

/-- What head 0 loads as the weighted sum after 6 chunks of the block. -/
theorem a_0_6 : kernelRun0_C.sl.v365 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 (arg14.view.read (Elt F) (harg14.unread xs0)) 0) (A1 (arg16.view.read (Elt F) (harg16.unread xs2)) 0) 6 :=
  (View.readCov_cons_toLoadRect _ _ _ _).trans (congrArg₂ (aN (Q (arg2.view.read (Elt F) (harg2.unread x0)) 0) (KS (arg6.view.read (Elt F) (harg6.unread x4)) 0 5) (KC (arg5.view.read (Elt F) (harg5.unread x3)) 0 5) (KS (arg8.view.read (Elt F) (harg8.unread x6)) 0 5) (KC (arg7.view.read (Elt F) (harg7.unread x5)) 0 5)) (m_0_5 c arg2 harg2 arg5 harg5 arg6 harg6 arg14 harg14 x0 x3 x4 xs0) (a_0_5 c arg2 harg2 arg5 harg5 arg6 harg6 arg7 harg7 arg8 harg8 arg14 harg14 arg16 harg16 x0 x3 x4 x5 x6 xs0 xs2))

/-- What head 0 loads as the running maximum after 7 chunks of the block. -/
theorem m_0_7 : kernelRun0_C.sl.v397 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 0 (M1 (arg14.view.read (Elt F) (harg14.unread xs0)) 0) 7 :=
  (View.readCov_cons_toLoadRect _ _ _ _).trans (congrArg (mN (Q (arg2.view.read (Elt F) (harg2.unread x0)) 0) (KS (arg6.view.read (Elt F) (harg6.unread x4)) 0 6) (KC (arg5.view.read (Elt F) (harg5.unread x3)) 0 6)) (m_0_6 c arg2 harg2 arg5 harg5 arg6 harg6 arg14 harg14 x0 x3 x4 xs0))

/-- What head 0 loads as the running denominator after 7 chunks of the block. -/
theorem l_0_7 : kernelRun0_C.sl.v407 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 0 (M1 (arg14.view.read (Elt F) (harg14.unread xs0)) 0) (M1 (arg15.view.read (Elt F) (harg15.unread xs1)) 0) 7 :=
  (View.readCov_cons_toLoadRect _ _ _ _).trans (congrArg₂ (lN (Q (arg2.view.read (Elt F) (harg2.unread x0)) 0) (KS (arg6.view.read (Elt F) (harg6.unread x4)) 0 6) (KC (arg5.view.read (Elt F) (harg5.unread x3)) 0 6)) (m_0_6 c arg2 harg2 arg5 harg5 arg6 harg6 arg14 harg14 x0 x3 x4 xs0) (l_0_6 c arg2 harg2 arg5 harg5 arg6 harg6 arg14 harg14 arg15 harg15 x0 x3 x4 xs0 xs1))

/-- What head 0 loads as the weighted sum after 7 chunks of the block. -/
theorem a_0_7 : kernelRun0_C.sl.v418 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 (arg14.view.read (Elt F) (harg14.unread xs0)) 0) (A1 (arg16.view.read (Elt F) (harg16.unread xs2)) 0) 7 :=
  (View.readCov_cons_toLoadRect _ _ _ _).trans (congrArg₂ (aN (Q (arg2.view.read (Elt F) (harg2.unread x0)) 0) (KS (arg6.view.read (Elt F) (harg6.unread x4)) 0 6) (KC (arg5.view.read (Elt F) (harg5.unread x3)) 0 6) (KS (arg8.view.read (Elt F) (harg8.unread x6)) 0 6) (KC (arg7.view.read (Elt F) (harg7.unread x5)) 0 6)) (m_0_6 c arg2 harg2 arg5 harg5 arg6 harg6 arg14 harg14 x0 x3 x4 xs0) (a_0_6 c arg2 harg2 arg5 harg5 arg6 harg6 arg7 harg7 arg8 harg8 arg14 harg14 arg16 harg16 x0 x3 x4 x5 x6 xs0 xs2))

/-- What head 1 loads as the running maximum after 0 chunks of the block. -/
theorem m_1_0 : kernelRun0_C.sl.v452 c arg14 harg14 xs0
    = mC (arg2.view.read (Elt F) (harg2.unread x0)) (arg5.view.read (Elt F) (harg5.unread x3)) (arg6.view.read (Elt F) (harg6.unread x4)) 1 (M1 (arg14.view.read (Elt F) (harg14.unread xs0)) 1) 0 :=
  rfl

/-- What head 1 loads as the running denominator after 0 chunks of the block. -/
theorem l_1_0 : kernelRun0_C.sl.v462 c arg15 harg15 xs1
    = lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 0 :=
  rfl

/-- What head 1 loads as the weighted sum after 0 chunks of the block. -/
theorem a_1_0 : kernelRun0_C.sl.v473 c arg16 harg16 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 0 :=
  rfl

/-- What head 1 loads as the running maximum after 1 chunks of the block. -/
theorem m_1_1 : kernelRun0_C.sl.v505 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 1 (M1 (arg14.view.read (Elt F) (harg14.unread xs0)) 1) 1 :=
  (View.readCov_cons_toLoadRect _ _ _ _).trans (congrArg (mN (Q (arg2.view.read (Elt F) (harg2.unread x0)) 1) (KS (arg6.view.read (Elt F) (harg6.unread x4)) 1 0) (KC (arg5.view.read (Elt F) (harg5.unread x3)) 1 0)) (m_1_0 c arg2 harg2 arg5 harg5 arg6 harg6 arg14 harg14 x0 x3 x4 xs0))

/-- What head 1 loads as the running denominator after 1 chunks of the block. -/
theorem l_1_1 : kernelRun0_C.sl.v515 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 1 :=
  (View.readCov_cons_toLoadRect _ _ _ _).trans (congrArg₂ (lN (Q (arg2.view.read (Elt F) (harg2.unread x0)) 1) (KS (arg6.view.read (Elt F) (harg6.unread x4)) 1 0) (KC (arg5.view.read (Elt F) (harg5.unread x3)) 1 0)) (m_1_0 c arg2 harg2 arg5 harg5 arg6 harg6 arg14 harg14 x0 x3 x4 xs0) (l_1_0 c arg2 harg2 arg5 harg5 arg6 harg6 arg14 harg14 arg15 harg15 x0 x3 x4 xs0 xs1))

/-- What head 1 loads as the weighted sum after 1 chunks of the block. -/
theorem a_1_1 : kernelRun0_C.sl.v526 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 1 :=
  (View.readCov_cons_toLoadRect _ _ _ _).trans ((aN_split (Q (arg2.view.read (Elt F) (harg2.unread x0)) 1) (KS (arg6.view.read (Elt F) (harg6.unread x4)) 1 0) (KC (arg5.view.read (Elt F) (harg5.unread x3)) 1 0) (KS (arg8.view.read (Elt F) (harg8.unread x6)) 1 0) (KC (arg7.view.read (Elt F) (harg7.unread x5)) 1 0) (kernelRun0_C.sl.v452 c arg14 harg14 xs0) (kernelRun0_C.sl.v473 c arg16 harg16 xs2)).trans (congrArg₂ (aN (Q (arg2.view.read (Elt F) (harg2.unread x0)) 1) (KS (arg6.view.read (Elt F) (harg6.unread x4)) 1 0) (KC (arg5.view.read (Elt F) (harg5.unread x3)) 1 0) (KS (arg8.view.read (Elt F) (harg8.unread x6)) 1 0) (KC (arg7.view.read (Elt F) (harg7.unread x5)) 1 0)) (m_1_0 c arg2 harg2 arg5 harg5 arg6 harg6 arg14 harg14 x0 x3 x4 xs0) (a_1_0 c arg2 harg2 arg5 harg5 arg6 harg6 arg7 harg7 arg8 harg8 arg14 harg14 arg16 harg16 x0 x3 x4 x5 x6 xs0 xs2)))

/-- What head 1 loads as the running maximum after 2 chunks of the block. -/
theorem m_1_2 : kernelRun0_C.sl.v558 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 1 (M1 (arg14.view.read (Elt F) (harg14.unread xs0)) 1) 2 :=
  (View.readCov_cons_toLoadRect _ _ _ _).trans (congrArg (mN (Q (arg2.view.read (Elt F) (harg2.unread x0)) 1) (KS (arg6.view.read (Elt F) (harg6.unread x4)) 1 1) (KC (arg5.view.read (Elt F) (harg5.unread x3)) 1 1)) (m_1_1 c arg2 harg2 arg5 harg5 arg6 harg6 arg14 harg14 x0 x3 x4 xs0))

/-- What head 1 loads as the running denominator after 2 chunks of the block. -/
theorem l_1_2 : kernelRun0_C.sl.v568 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 2 :=
  (View.readCov_cons_toLoadRect _ _ _ _).trans (congrArg₂ (lN (Q (arg2.view.read (Elt F) (harg2.unread x0)) 1) (KS (arg6.view.read (Elt F) (harg6.unread x4)) 1 1) (KC (arg5.view.read (Elt F) (harg5.unread x3)) 1 1)) (m_1_1 c arg2 harg2 arg5 harg5 arg6 harg6 arg14 harg14 x0 x3 x4 xs0) (l_1_1 c arg2 harg2 arg5 harg5 arg6 harg6 arg14 harg14 arg15 harg15 x0 x3 x4 xs0 xs1))

/-- What head 1 loads as the weighted sum after 2 chunks of the block. -/
theorem a_1_2 : kernelRun0_C.sl.v579 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 2 :=
  (View.readCov_cons_toLoadRect _ _ _ _).trans (congrArg₂ (aN (Q (arg2.view.read (Elt F) (harg2.unread x0)) 1) (KS (arg6.view.read (Elt F) (harg6.unread x4)) 1 1) (KC (arg5.view.read (Elt F) (harg5.unread x3)) 1 1) (KS (arg8.view.read (Elt F) (harg8.unread x6)) 1 1) (KC (arg7.view.read (Elt F) (harg7.unread x5)) 1 1)) (m_1_1 c arg2 harg2 arg5 harg5 arg6 harg6 arg14 harg14 x0 x3 x4 xs0) (a_1_1 c arg2 harg2 arg5 harg5 arg6 harg6 arg7 harg7 arg8 harg8 arg14 harg14 arg16 harg16 x0 x3 x4 x5 x6 xs0 xs2))

/-- What head 1 loads as the running maximum after 3 chunks of the block. -/
theorem m_1_3 : kernelRun0_C.sl.v611 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 1 (M1 (arg14.view.read (Elt F) (harg14.unread xs0)) 1) 3 :=
  (View.readCov_cons_toLoadRect _ _ _ _).trans (congrArg (mN (Q (arg2.view.read (Elt F) (harg2.unread x0)) 1) (KS (arg6.view.read (Elt F) (harg6.unread x4)) 1 2) (KC (arg5.view.read (Elt F) (harg5.unread x3)) 1 2)) (m_1_2 c arg2 harg2 arg5 harg5 arg6 harg6 arg14 harg14 x0 x3 x4 xs0))

/-- What head 1 loads as the running denominator after 3 chunks of the block. -/
theorem l_1_3 : kernelRun0_C.sl.v621 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 3 :=
  (View.readCov_cons_toLoadRect _ _ _ _).trans (congrArg₂ (lN (Q (arg2.view.read (Elt F) (harg2.unread x0)) 1) (KS (arg6.view.read (Elt F) (harg6.unread x4)) 1 2) (KC (arg5.view.read (Elt F) (harg5.unread x3)) 1 2)) (m_1_2 c arg2 harg2 arg5 harg5 arg6 harg6 arg14 harg14 x0 x3 x4 xs0) (l_1_2 c arg2 harg2 arg5 harg5 arg6 harg6 arg14 harg14 arg15 harg15 x0 x3 x4 xs0 xs1))

/-- What head 1 loads as the weighted sum after 3 chunks of the block. -/
theorem a_1_3 : kernelRun0_C.sl.v632 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 3 :=
  (View.readCov_cons_toLoadRect _ _ _ _).trans (congrArg₂ (aN (Q (arg2.view.read (Elt F) (harg2.unread x0)) 1) (KS (arg6.view.read (Elt F) (harg6.unread x4)) 1 2) (KC (arg5.view.read (Elt F) (harg5.unread x3)) 1 2) (KS (arg8.view.read (Elt F) (harg8.unread x6)) 1 2) (KC (arg7.view.read (Elt F) (harg7.unread x5)) 1 2)) (m_1_2 c arg2 harg2 arg5 harg5 arg6 harg6 arg14 harg14 x0 x3 x4 xs0) (a_1_2 c arg2 harg2 arg5 harg5 arg6 harg6 arg7 harg7 arg8 harg8 arg14 harg14 arg16 harg16 x0 x3 x4 x5 x6 xs0 xs2))

/-- What head 1 loads as the running maximum after 4 chunks of the block. -/
theorem m_1_4 : kernelRun0_C.sl.v664 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 1 (M1 (arg14.view.read (Elt F) (harg14.unread xs0)) 1) 4 :=
  (View.readCov_cons_toLoadRect _ _ _ _).trans (congrArg (mN (Q (arg2.view.read (Elt F) (harg2.unread x0)) 1) (KS (arg6.view.read (Elt F) (harg6.unread x4)) 1 3) (KC (arg5.view.read (Elt F) (harg5.unread x3)) 1 3)) (m_1_3 c arg2 harg2 arg5 harg5 arg6 harg6 arg14 harg14 x0 x3 x4 xs0))

/-- What head 1 loads as the running denominator after 4 chunks of the block. -/
theorem l_1_4 : kernelRun0_C.sl.v674 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 4 :=
  (View.readCov_cons_toLoadRect _ _ _ _).trans (congrArg₂ (lN (Q (arg2.view.read (Elt F) (harg2.unread x0)) 1) (KS (arg6.view.read (Elt F) (harg6.unread x4)) 1 3) (KC (arg5.view.read (Elt F) (harg5.unread x3)) 1 3)) (m_1_3 c arg2 harg2 arg5 harg5 arg6 harg6 arg14 harg14 x0 x3 x4 xs0) (l_1_3 c arg2 harg2 arg5 harg5 arg6 harg6 arg14 harg14 arg15 harg15 x0 x3 x4 xs0 xs1))

/-- What head 1 loads as the weighted sum after 4 chunks of the block. -/
theorem a_1_4 : kernelRun0_C.sl.v685 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 4 :=
  (View.readCov_cons_toLoadRect _ _ _ _).trans (congrArg₂ (aN (Q (arg2.view.read (Elt F) (harg2.unread x0)) 1) (KS (arg6.view.read (Elt F) (harg6.unread x4)) 1 3) (KC (arg5.view.read (Elt F) (harg5.unread x3)) 1 3) (KS (arg8.view.read (Elt F) (harg8.unread x6)) 1 3) (KC (arg7.view.read (Elt F) (harg7.unread x5)) 1 3)) (m_1_3 c arg2 harg2 arg5 harg5 arg6 harg6 arg14 harg14 x0 x3 x4 xs0) (a_1_3 c arg2 harg2 arg5 harg5 arg6 harg6 arg7 harg7 arg8 harg8 arg14 harg14 arg16 harg16 x0 x3 x4 x5 x6 xs0 xs2))

/-- What head 1 loads as the running maximum after 5 chunks of the block. -/
theorem m_1_5 : kernelRun0_C.sl.v717 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 1 (M1 (arg14.view.read (Elt F) (harg14.unread xs0)) 1) 5 :=
  (View.readCov_cons_toLoadRect _ _ _ _).trans (congrArg (mN (Q (arg2.view.read (Elt F) (harg2.unread x0)) 1) (KS (arg6.view.read (Elt F) (harg6.unread x4)) 1 4) (KC (arg5.view.read (Elt F) (harg5.unread x3)) 1 4)) (m_1_4 c arg2 harg2 arg5 harg5 arg6 harg6 arg14 harg14 x0 x3 x4 xs0))

/-- What head 1 loads as the running denominator after 5 chunks of the block. -/
theorem l_1_5 : kernelRun0_C.sl.v727 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 5 :=
  (View.readCov_cons_toLoadRect _ _ _ _).trans (congrArg₂ (lN (Q (arg2.view.read (Elt F) (harg2.unread x0)) 1) (KS (arg6.view.read (Elt F) (harg6.unread x4)) 1 4) (KC (arg5.view.read (Elt F) (harg5.unread x3)) 1 4)) (m_1_4 c arg2 harg2 arg5 harg5 arg6 harg6 arg14 harg14 x0 x3 x4 xs0) (l_1_4 c arg2 harg2 arg5 harg5 arg6 harg6 arg14 harg14 arg15 harg15 x0 x3 x4 xs0 xs1))

/-- What head 1 loads as the weighted sum after 5 chunks of the block. -/
theorem a_1_5 : kernelRun0_C.sl.v738 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 5 :=
  (View.readCov_cons_toLoadRect _ _ _ _).trans (congrArg₂ (aN (Q (arg2.view.read (Elt F) (harg2.unread x0)) 1) (KS (arg6.view.read (Elt F) (harg6.unread x4)) 1 4) (KC (arg5.view.read (Elt F) (harg5.unread x3)) 1 4) (KS (arg8.view.read (Elt F) (harg8.unread x6)) 1 4) (KC (arg7.view.read (Elt F) (harg7.unread x5)) 1 4)) (m_1_4 c arg2 harg2 arg5 harg5 arg6 harg6 arg14 harg14 x0 x3 x4 xs0) (a_1_4 c arg2 harg2 arg5 harg5 arg6 harg6 arg7 harg7 arg8 harg8 arg14 harg14 arg16 harg16 x0 x3 x4 x5 x6 xs0 xs2))

/-- What head 1 loads as the running maximum after 6 chunks of the block. -/
theorem m_1_6 : kernelRun0_C.sl.v770 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 1 (M1 (arg14.view.read (Elt F) (harg14.unread xs0)) 1) 6 :=
  (View.readCov_cons_toLoadRect _ _ _ _).trans (congrArg (mN (Q (arg2.view.read (Elt F) (harg2.unread x0)) 1) (KS (arg6.view.read (Elt F) (harg6.unread x4)) 1 5) (KC (arg5.view.read (Elt F) (harg5.unread x3)) 1 5)) (m_1_5 c arg2 harg2 arg5 harg5 arg6 harg6 arg14 harg14 x0 x3 x4 xs0))

/-- What head 1 loads as the running denominator after 6 chunks of the block. -/
theorem l_1_6 : kernelRun0_C.sl.v780 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 6 :=
  (View.readCov_cons_toLoadRect _ _ _ _).trans (congrArg₂ (lN (Q (arg2.view.read (Elt F) (harg2.unread x0)) 1) (KS (arg6.view.read (Elt F) (harg6.unread x4)) 1 5) (KC (arg5.view.read (Elt F) (harg5.unread x3)) 1 5)) (m_1_5 c arg2 harg2 arg5 harg5 arg6 harg6 arg14 harg14 x0 x3 x4 xs0) (l_1_5 c arg2 harg2 arg5 harg5 arg6 harg6 arg14 harg14 arg15 harg15 x0 x3 x4 xs0 xs1))

/-- What head 1 loads as the weighted sum after 6 chunks of the block. -/
theorem a_1_6 : kernelRun0_C.sl.v791 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 6 :=
  (View.readCov_cons_toLoadRect _ _ _ _).trans (congrArg₂ (aN (Q (arg2.view.read (Elt F) (harg2.unread x0)) 1) (KS (arg6.view.read (Elt F) (harg6.unread x4)) 1 5) (KC (arg5.view.read (Elt F) (harg5.unread x3)) 1 5) (KS (arg8.view.read (Elt F) (harg8.unread x6)) 1 5) (KC (arg7.view.read (Elt F) (harg7.unread x5)) 1 5)) (m_1_5 c arg2 harg2 arg5 harg5 arg6 harg6 arg14 harg14 x0 x3 x4 xs0) (a_1_5 c arg2 harg2 arg5 harg5 arg6 harg6 arg7 harg7 arg8 harg8 arg14 harg14 arg16 harg16 x0 x3 x4 x5 x6 xs0 xs2))

/-- What head 1 loads as the running maximum after 7 chunks of the block. -/
theorem m_1_7 : kernelRun0_C.sl.v823 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 1 (M1 (arg14.view.read (Elt F) (harg14.unread xs0)) 1) 7 :=
  (View.readCov_cons_toLoadRect _ _ _ _).trans (congrArg (mN (Q (arg2.view.read (Elt F) (harg2.unread x0)) 1) (KS (arg6.view.read (Elt F) (harg6.unread x4)) 1 6) (KC (arg5.view.read (Elt F) (harg5.unread x3)) 1 6)) (m_1_6 c arg2 harg2 arg5 harg5 arg6 harg6 arg14 harg14 x0 x3 x4 xs0))

/-- What head 1 loads as the running denominator after 7 chunks of the block. -/
theorem l_1_7 : kernelRun0_C.sl.v833 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 7 :=
  (View.readCov_cons_toLoadRect _ _ _ _).trans (congrArg₂ (lN (Q (arg2.view.read (Elt F) (harg2.unread x0)) 1) (KS (arg6.view.read (Elt F) (harg6.unread x4)) 1 6) (KC (arg5.view.read (Elt F) (harg5.unread x3)) 1 6)) (m_1_6 c arg2 harg2 arg5 harg5 arg6 harg6 arg14 harg14 x0 x3 x4 xs0) (l_1_6 c arg2 harg2 arg5 harg5 arg6 harg6 arg14 harg14 arg15 harg15 x0 x3 x4 xs0 xs1))

/-- What head 1 loads as the weighted sum after 7 chunks of the block. -/
theorem a_1_7 : kernelRun0_C.sl.v844 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 7 :=
  (View.readCov_cons_toLoadRect _ _ _ _).trans (congrArg₂ (aN (Q (arg2.view.read (Elt F) (harg2.unread x0)) 1) (KS (arg6.view.read (Elt F) (harg6.unread x4)) 1 6) (KC (arg5.view.read (Elt F) (harg5.unread x3)) 1 6) (KS (arg8.view.read (Elt F) (harg8.unread x6)) 1 6) (KC (arg7.view.read (Elt F) (harg7.unread x5)) 1 6)) (m_1_6 c arg2 harg2 arg5 harg5 arg6 harg6 arg14 harg14 x0 x3 x4 xs0) (a_1_6 c arg2 harg2 arg5 harg5 arg6 harg6 arg7 harg7 arg8 harg8 arg14 harg14 arg16 harg16 x0 x3 x4 x5 x6 xs0 xs2))

/-- What head 0 loads as the running maximum after 8 chunks of the block. -/
theorem m_0_8 : kernelRun0_C.sl.v952 c arg2 harg2 arg5 harg5 arg6 harg6 arg14 harg14 x0 x3 x4 xs0
    = mC (arg2.view.read (Elt F) (harg2.unread x0)) (arg5.view.read (Elt F) (harg5.unread x3)) (arg6.view.read (Elt F) (harg6.unread x4)) 0 (M1 (arg14.view.read (Elt F) (harg14.unread xs0)) 0) 8 :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_cons_toLoadRect _ _ _ _).trans (congrArg (mN (Q (arg2.view.read (Elt F) (harg2.unread x0)) 0) (KS (arg6.view.read (Elt F) (harg6.unread x4)) 0 7) (KC (arg5.view.read (Elt F) (harg5.unread x3)) 0 7)) (m_0_7 c arg2 harg2 arg5 harg5 arg6 harg6 arg14 harg14 x0 x3 x4 xs0))

/-- What head 0 loads as the running denominator after 8 chunks of the block. -/
theorem l_0_8 : kernelRun0_C.sl.v962 c arg2 harg2 arg5 harg5 arg6 harg6 arg14 harg14 arg15 harg15 x0 x3 x4 xs0 xs1
    = lC (arg2.view.read (Elt F) (harg2.unread x0)) (arg5.view.read (Elt F) (harg5.unread x3)) (arg6.view.read (Elt F) (harg6.unread x4)) 0 (M1 (arg14.view.read (Elt F) (harg14.unread xs0)) 0) (M1 (arg15.view.read (Elt F) (harg15.unread xs1)) 0) 8 :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_cons_toLoadRect _ _ _ _).trans (congrArg₂ (lN (Q (arg2.view.read (Elt F) (harg2.unread x0)) 0) (KS (arg6.view.read (Elt F) (harg6.unread x4)) 0 7) (KC (arg5.view.read (Elt F) (harg5.unread x3)) 0 7)) (m_0_7 c arg2 harg2 arg5 harg5 arg6 harg6 arg14 harg14 x0 x3 x4 xs0) (l_0_7 c arg2 harg2 arg5 harg5 arg6 harg6 arg14 harg14 arg15 harg15 x0 x3 x4 xs0 xs1))

/-- What head 0 loads as the weighted sum after 8 chunks of the block. -/
theorem a_0_8 : kernelRun0_C.sl.v973 c arg2 harg2 arg5 harg5 arg6 harg6 arg7 harg7 arg8 harg8 arg14 harg14 arg16 harg16 x0 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 (arg14.view.read (Elt F) (harg14.unread xs0)) 0) (A1 (arg16.view.read (Elt F) (harg16.unread xs2)) 0) 8 :=
  (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_skip _ _ _ _ _ (by decide)).trans <| (View.readCov_cons_toLoadRect _ _ _ _).trans (congrArg₂ (aN (Q (arg2.view.read (Elt F) (harg2.unread x0)) 0) (KS (arg6.view.read (Elt F) (harg6.unread x4)) 0 7) (KC (arg5.view.read (Elt F) (harg5.unread x3)) 0 7) (KS (arg8.view.read (Elt F) (harg8.unread x6)) 0 7) (KC (arg7.view.read (Elt F) (harg7.unread x5)) 0 7)) (m_0_7 c arg2 harg2 arg5 harg5 arg6 harg6 arg14 harg14 x0 x3 x4 xs0) (a_0_7 c arg2 harg2 arg5 harg5 arg6 harg6 arg7 harg7 arg8 harg8 arg14 harg14 arg16 harg16 x0 x3 x4 x5 x6 xs0 xs2))

/-- What head 1 loads as the running maximum after 8 chunks of the block. -/
theorem m_1_8 : kernelRun0_C.sl.v1062 c arg2 harg2 arg3 harg3 arg5 harg5 arg6 harg6 arg14 harg14 x0 x1 x3 x4 xs0
    = mC (arg2.view.read (Elt F) (harg2.unread x0)) (arg5.view.read (Elt F) (harg5.unread x3)) (arg6.view.read (Elt F) (harg6.unread x4)) 1 (M1 (arg14.view.read (Elt F) (harg14.unread xs0)) 1) 8 :=
  (View.readCov_skip _ _ _ _ _ (by decide)).trans <| (View.readCov_cons_toLoadRect _ _ _ _).trans (congrArg (mN (Q (arg2.view.read (Elt F) (harg2.unread x0)) 1) (KS (arg6.view.read (Elt F) (harg6.unread x4)) 1 7) (KC (arg5.view.read (Elt F) (harg5.unread x3)) 1 7)) (m_1_7 c arg2 harg2 arg5 harg5 arg6 harg6 arg14 harg14 x0 x3 x4 xs0))

/-- What head 1 loads as the running denominator after 8 chunks of the block. -/
theorem l_1_8 : kernelRun0_C.sl.v1072 c arg2 harg2 arg3 harg3 arg5 harg5 arg6 harg6 arg14 harg14 arg15 harg15 x0 x1 x3 x4 xs0 xs1
    = lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 8 :=
  (View.readCov_skip _ _ _ _ _ (by decide)).trans <| (View.readCov_cons_toLoadRect _ _ _ _).trans (congrArg₂ (lN (Q (arg2.view.read (Elt F) (harg2.unread x0)) 1) (KS (arg6.view.read (Elt F) (harg6.unread x4)) 1 7) (KC (arg5.view.read (Elt F) (harg5.unread x3)) 1 7)) (m_1_7 c arg2 harg2 arg5 harg5 arg6 harg6 arg14 harg14 x0 x3 x4 xs0) (l_1_7 c arg2 harg2 arg5 harg5 arg6 harg6 arg14 harg14 arg15 harg15 x0 x3 x4 xs0 xs1))

/-- What head 1 loads as the weighted sum after 8 chunks of the block. -/
theorem a_1_8 : kernelRun0_C.sl.v1083 c arg2 harg2 arg3 harg3 arg4 harg4 arg5 harg5 arg6 harg6 arg7 harg7 arg8 harg8 arg14 harg14 arg16 harg16 x0 x1 x2 x3 x4 x5 x6 xs0 xs2
    = aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 8 :=
  (View.readCov_skip _ _ _ _ _ (by decide)).trans <| (View.readCov_cons_toLoadRect _ _ _ _).trans (congrArg₂ (aN (Q (arg2.view.read (Elt F) (harg2.unread x0)) 1) (KS (arg6.view.read (Elt F) (harg6.unread x4)) 1 7) (KC (arg5.view.read (Elt F) (harg5.unread x3)) 1 7) (KS (arg8.view.read (Elt F) (harg8.unread x6)) 1 7) (KC (arg7.view.read (Elt F) (harg7.unread x5)) 1 7)) (m_1_7 c arg2 harg2 arg5 harg5 arg6 harg6 arg14 harg14 x0 x3 x4 xs0) (a_1_7 c arg2 harg2 arg5 harg5 arg6 harg6 arg7 harg7 arg8 harg8 arg14 harg14 arg16 harg16 x0 x3 x4 x5 x6 xs0 xs2))

/-- What head 0 loads as the running denominator after 9 chunks of the block. -/
theorem l_0_9 : kernelRun0_C.sl.v986 c arg2 harg2 arg3 harg3 arg5 harg5 arg6 harg6 arg14 harg14 arg15 harg15 x0 x1 x3 x4 xs0 xs1
    = lT (Q (arg2.view.read (Elt F) (harg2.unread x0)) 0) (KN (arg3.view.read (Elt F) (harg3.unread x1)) 0) (mC (arg2.view.read (Elt F) (harg2.unread x0)) (arg5.view.read (Elt F) (harg5.unread x3)) (arg6.view.read (Elt F) (harg6.unread x4)) 0 (M1 (arg14.view.read (Elt F) (harg14.unread xs0)) 0) 8) (lC (arg2.view.read (Elt F) (harg2.unread x0)) (arg5.view.read (Elt F) (harg5.unread x3)) (arg6.view.read (Elt F) (harg6.unread x4)) 0 (M1 (arg14.view.read (Elt F) (harg14.unread xs0)) 0) (M1 (arg15.view.read (Elt F) (harg15.unread xs1)) 0) 8) :=
  (View.readCov_cons_toLoadRect _ _ _ _).trans ((lT0 (Q (arg2.view.read (Elt F) (harg2.unread x0)) 0) (KN (arg3.view.read (Elt F) (harg3.unread x1)) 0) (kernelRun0_C.sl.v952 c arg2 harg2 arg5 harg5 arg6 harg6 arg14 harg14 x0 x3 x4 xs0) (kernelRun0_C.sl.v962 c arg2 harg2 arg5 harg5 arg6 harg6 arg14 harg14 arg15 harg15 x0 x3 x4 xs0 xs1)).trans (congrArg₂ (lT (Q (arg2.view.read (Elt F) (harg2.unread x0)) 0) (KN (arg3.view.read (Elt F) (harg3.unread x1)) 0)) (m_0_8 c arg2 harg2 arg5 harg5 arg6 harg6 arg14 harg14 x0 x3 x4 xs0) (l_0_8 c arg2 harg2 arg5 harg5 arg6 harg6 arg14 harg14 arg15 harg15 x0 x3 x4 xs0 xs1)))

/-- What head 0 loads as the weighted sum after 9 chunks of the block. -/
theorem a_0_9 : kernelRun0_C.sl.v984 c arg2 harg2 arg3 harg3 arg4 harg4 arg5 harg5 arg6 harg6 arg7 harg7 arg8 harg8 arg14 harg14 arg16 harg16 x0 x1 x2 x3 x4 x5 x6 xs0 xs2
    = aT (Q (arg2.view.read (Elt F) (harg2.unread x0)) 0) (KN (arg3.view.read (Elt F) (harg3.unread x1)) 0) (KN (arg4.view.read (Elt F) (harg4.unread x2)) 0) (mC (arg2.view.read (Elt F) (harg2.unread x0)) (arg5.view.read (Elt F) (harg5.unread x3)) (arg6.view.read (Elt F) (harg6.unread x4)) 0 (M1 (arg14.view.read (Elt F) (harg14.unread xs0)) 0) 8) (aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 (arg14.view.read (Elt F) (harg14.unread xs0)) 0) (A1 (arg16.view.read (Elt F) (harg16.unread xs2)) 0) 8) :=
  (View.readCov_cons_toLoadRect _ _ _ _).trans ((aT0 (Q (arg2.view.read (Elt F) (harg2.unread x0)) 0) (KN (arg3.view.read (Elt F) (harg3.unread x1)) 0) (KN (arg4.view.read (Elt F) (harg4.unread x2)) 0) (kernelRun0_C.sl.v952 c arg2 harg2 arg5 harg5 arg6 harg6 arg14 harg14 x0 x3 x4 xs0) (kernelRun0_C.sl.v973 c arg2 harg2 arg5 harg5 arg6 harg6 arg7 harg7 arg8 harg8 arg14 harg14 arg16 harg16 x0 x3 x4 x5 x6 xs0 xs2)).trans (congrArg₂ (aT (Q (arg2.view.read (Elt F) (harg2.unread x0)) 0) (KN (arg3.view.read (Elt F) (harg3.unread x1)) 0) (KN (arg4.view.read (Elt F) (harg4.unread x2)) 0)) (m_0_8 c arg2 harg2 arg5 harg5 arg6 harg6 arg14 harg14 x0 x3 x4 xs0) (a_0_8 c arg2 harg2 arg5 harg5 arg6 harg6 arg7 harg7 arg8 harg8 arg14 harg14 arg16 harg16 x0 x3 x4 x5 x6 xs0 xs2)))

/-- What head 1 loads as the running denominator after 9 chunks of the block. -/
theorem l_1_9 : kernelRun0_C.sl.v1096 c arg2 harg2 arg3 harg3 arg5 harg5 arg6 harg6 arg14 harg14 arg15 harg15 x0 x1 x3 x4 xs0 xs1
    = lT (Q (arg2.view.read (Elt F) (harg2.unread x0)) 1) (KN (arg3.view.read (Elt F) (harg3.unread x1)) 1) (mC (arg2.view.read (Elt F) (harg2.unread x0)) (arg5.view.read (Elt F) (harg5.unread x3)) (arg6.view.read (Elt F) (harg6.unread x4)) 1 (M1 (arg14.view.read (Elt F) (harg14.unread xs0)) 1) 8) (lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 8) :=
  (View.readCov_cons_toLoadRect _ _ _ _).trans ((lT1 (Q (arg2.view.read (Elt F) (harg2.unread x0)) 1) (KN (arg3.view.read (Elt F) (harg3.unread x1)) 1) (kernelRun0_C.sl.v1062 c arg2 harg2 arg3 harg3 arg5 harg5 arg6 harg6 arg14 harg14 x0 x1 x3 x4 xs0) (kernelRun0_C.sl.v1072 c arg2 harg2 arg3 harg3 arg5 harg5 arg6 harg6 arg14 harg14 arg15 harg15 x0 x1 x3 x4 xs0 xs1)).trans (congrArg₂ (lT (Q (arg2.view.read (Elt F) (harg2.unread x0)) 1) (KN (arg3.view.read (Elt F) (harg3.unread x1)) 1)) (m_1_8 c arg2 harg2 arg3 harg3 arg5 harg5 arg6 harg6 arg14 harg14 x0 x1 x3 x4 xs0) (l_1_8 c arg2 harg2 arg3 harg3 arg5 harg5 arg6 harg6 arg14 harg14 arg15 harg15 x0 x1 x3 x4 xs0 xs1)))

/-- What head 1 loads as the weighted sum after 9 chunks of the block. -/
theorem a_1_9 : kernelRun0_C.sl.v1094 c arg2 harg2 arg3 harg3 arg4 harg4 arg5 harg5 arg6 harg6 arg7 harg7 arg8 harg8 arg14 harg14 arg16 harg16 x0 x1 x2 x3 x4 x5 x6 xs0 xs2
    = aT (Q (arg2.view.read (Elt F) (harg2.unread x0)) 1) (KN (arg3.view.read (Elt F) (harg3.unread x1)) 1) (KN (arg4.view.read (Elt F) (harg4.unread x2)) 1) (mC (arg2.view.read (Elt F) (harg2.unread x0)) (arg5.view.read (Elt F) (harg5.unread x3)) (arg6.view.read (Elt F) (harg6.unread x4)) 1 (M1 (arg14.view.read (Elt F) (harg14.unread xs0)) 1) 8) (aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 8) :=
  (View.readCov_cons_toLoadRect _ _ _ _).trans ((aT1 (Q (arg2.view.read (Elt F) (harg2.unread x0)) 1) (KN (arg3.view.read (Elt F) (harg3.unread x1)) 1) (KN (arg4.view.read (Elt F) (harg4.unread x2)) 1) (kernelRun0_C.sl.v1062 c arg2 harg2 arg3 harg3 arg5 harg5 arg6 harg6 arg14 harg14 x0 x1 x3 x4 xs0) (kernelRun0_C.sl.v1083 c arg2 harg2 arg3 harg3 arg4 harg4 arg5 harg5 arg6 harg6 arg7 harg7 arg8 harg8 arg14 harg14 arg16 harg16 x0 x1 x2 x3 x4 x5 x6 xs0 xs2)).trans (congrArg₂ (aT (Q (arg2.view.read (Elt F) (harg2.unread x0)) 1) (KN (arg3.view.read (Elt F) (harg3.unread x1)) 1) (KN (arg4.view.read (Elt F) (harg4.unread x2)) 1)) (m_1_8 c arg2 harg2 arg3 harg3 arg5 harg5 arg6 harg6 arg14 harg14 x0 x1 x3 x4 xs0) (a_1_8 c arg2 harg2 arg3 harg3 arg4 harg4 arg5 harg5 arg6 harg6 arg7 harg7 arg8 harg8 arg14 harg14 arg16 harg16 x0 x1 x2 x3 x4 x5 x6 xs0 xs2)))

/-- Head 0 of what the last point of a row leaves in output 7. -/
theorem O7_0 : View.ld (out0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2) (Rect.unit (s := S1x2x64x128) ![0, 0, 0, 0] S1x1x64x128.size inb_S1x2x64x128_S1x1x64x128_0_0_0_0)
    = yT (aT (Q (arg2.view.read (Elt F) (harg2.unread x0)) 0) (KN (arg3.view.read (Elt F) (harg3.unread x1)) 0) (KN (arg4.view.read (Elt F) (harg4.unread x2)) 0) (mC (arg2.view.read (Elt F) (harg2.unread x0)) (arg5.view.read (Elt F) (harg5.unread x3)) (arg6.view.read (Elt F) (harg6.unread x4)) 0 (M1 (arg14.view.read (Elt F) (harg14.unread xs0)) 0) 8) (aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 0 (M1 (arg14.view.read (Elt F) (harg14.unread xs0)) 0) (A1 (arg16.view.read (Elt F) (harg16.unread xs2)) 0) 8)) (lT (Q (arg2.view.read (Elt F) (harg2.unread x0)) 0) (KN (arg3.view.read (Elt F) (harg3.unread x1)) 0) (mC (arg2.view.read (Elt F) (harg2.unread x0)) (arg5.view.read (Elt F) (harg5.unread x3)) (arg6.view.read (Elt F) (harg6.unread x4)) 0 (M1 (arg14.view.read (Elt F) (harg14.unread xs0)) 0) 8) (lC (arg2.view.read (Elt F) (harg2.unread x0)) (arg5.view.read (Elt F) (harg5.unread x3)) (arg6.view.read (Elt F) (harg6.unread x4)) 0 (M1 (arg14.view.read (Elt F) (harg14.unread xs0)) 0) (M1 (arg15.view.read (Elt F) (harg15.unread xs1)) 0) 8)) :=
  (congrArg (fun z => View.ld z (Rect.unit (s := S1x2x64x128) ![0, 0, 0, 0] S1x1x64x128.size inb_S1x2x64x128_S1x1x64x128_0_0_0_0)) (View.read_writes_junk_eq_canon _ _)).trans <| (View.readCov_eq_canon' arg9.view _ (Rect.unit (s := S1x2x64x128) ![0, 0, 0, 0] S1x1x64x128.size inb_S1x2x64x128_S1x1x64x128_0_0_0_0).toLoadRect).symm.trans <| (View.readCov_skip _ _ _ _ _ (by decide)).trans <| (View.readCov_cons_toLoadRect _ _ _ _).trans (congrArg₂ yT (a_0_9 c arg2 harg2 arg3 harg3 arg4 harg4 arg5 harg5 arg6 harg6 arg7 harg7 arg8 harg8 arg14 harg14 arg16 harg16 x0 x1 x2 x3 x4 x5 x6 xs0 xs2) (l_0_9 c arg2 harg2 arg3 harg3 arg5 harg5 arg6 harg6 arg14 harg14 arg15 harg15 x0 x1 x3 x4 xs0 xs1))

/-- Head 0 of what the last point of a row leaves in output 8. -/
theorem O8_0 : View.ld (out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2) (Rect.unit (s := S1x2x4x128) ![0, 0, 0, 0] S1x1x4x128.size inb_S1x2x4x128_S1x1x4x128_0_0_0_0)
    = oC (KN (arg3.view.read (Elt F) (harg3.unread x1)) 0) :=
  (congrArg (fun z => View.ld z (Rect.unit (s := S1x2x4x128) ![0, 0, 0, 0] S1x1x4x128.size inb_S1x2x4x128_S1x1x4x128_0_0_0_0)) (View.read_writes_junk_eq_canon _ _)).trans <| (View.readCov_eq_canon' arg10.view _ (Rect.unit (s := S1x2x4x128) ![0, 0, 0, 0] S1x1x4x128.size inb_S1x2x4x128_S1x1x4x128_0_0_0_0).toLoadRect).symm.trans <| (View.readCov_skip _ _ _ _ _ (by decide)).trans <| View.readCov_cons_toLoadRect _ _ _ _

/-- Head 0 of what the last point of a row leaves in output 9. -/
theorem O9_0 : View.ld (out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2) (Rect.unit (s := S1x2x4x1) ![0, 0, 0, 0] S1x1x4x1.size inb_S1x2x4x1_S1x1x4x1_0_0_0_0)
    = oS (KN (arg3.view.read (Elt F) (harg3.unread x1)) 0) :=
  (congrArg (fun z => View.ld z (Rect.unit (s := S1x2x4x1) ![0, 0, 0, 0] S1x1x4x1.size inb_S1x2x4x1_S1x1x4x1_0_0_0_0)) (View.read_writes_junk_eq_canon _ _)).trans <| (View.readCov_eq_canon' arg11.view _ (Rect.unit (s := S1x2x4x1) ![0, 0, 0, 0] S1x1x4x1.size inb_S1x2x4x1_S1x1x4x1_0_0_0_0).toLoadRect).symm.trans <| (View.readCov_skip _ _ _ _ _ (by decide)).trans <| View.readCov_cons_toLoadRect _ _ _ _

/-- Head 0 of what the last point of a row leaves in output 10. -/
theorem O10_0 : View.ld (out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2) (Rect.unit (s := S1x2x4x128) ![0, 0, 0, 0] S1x1x4x128.size inb_S1x2x4x128_S1x1x4x128_0_0_0_0)
    = oC (KN (arg4.view.read (Elt F) (harg4.unread x2)) 0) :=
  (congrArg (fun z => View.ld z (Rect.unit (s := S1x2x4x128) ![0, 0, 0, 0] S1x1x4x128.size inb_S1x2x4x128_S1x1x4x128_0_0_0_0)) (View.read_writes_junk_eq_canon _ _)).trans <| (View.readCov_eq_canon' arg12.view _ (Rect.unit (s := S1x2x4x128) ![0, 0, 0, 0] S1x1x4x128.size inb_S1x2x4x128_S1x1x4x128_0_0_0_0).toLoadRect).symm.trans <| (View.readCov_skip _ _ _ _ _ (by decide)).trans <| View.readCov_cons_toLoadRect _ _ _ _

/-- Head 0 of what the last point of a row leaves in output 11. -/
theorem O11_0 : View.ld (out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2) (Rect.unit (s := S1x2x4x1) ![0, 0, 0, 0] S1x1x4x1.size inb_S1x2x4x1_S1x1x4x1_0_0_0_0)
    = oS (KN (arg4.view.read (Elt F) (harg4.unread x2)) 0) :=
  (congrArg (fun z => View.ld z (Rect.unit (s := S1x2x4x1) ![0, 0, 0, 0] S1x1x4x1.size inb_S1x2x4x1_S1x1x4x1_0_0_0_0)) (View.read_writes_junk_eq_canon _ _)).trans <| (View.readCov_eq_canon' arg13.view _ (Rect.unit (s := S1x2x4x1) ![0, 0, 0, 0] S1x1x4x1.size inb_S1x2x4x1_S1x1x4x1_0_0_0_0).toLoadRect).symm.trans <| (View.readCov_skip _ _ _ _ _ (by decide)).trans <| View.readCov_cons_toLoadRect _ _ _ _

/-- Head 1 of what the last point of a row leaves in output 7. -/
theorem O7_1 : View.ld (out0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2) (Rect.unit (s := S1x2x64x128) ![0, 1, 0, 0] S1x1x64x128.size inb_S1x2x64x128_S1x1x64x128_0_1_0_0)
    = yT (aT (Q (arg2.view.read (Elt F) (harg2.unread x0)) 1) (KN (arg3.view.read (Elt F) (harg3.unread x1)) 1) (KN (arg4.view.read (Elt F) (harg4.unread x2)) 1) (mC (arg2.view.read (Elt F) (harg2.unread x0)) (arg5.view.read (Elt F) (harg5.unread x3)) (arg6.view.read (Elt F) (harg6.unread x4)) 1 (M1 (arg14.view.read (Elt F) (harg14.unread xs0)) 1) 8) (aC (arg2.view.read (Elt F) (harg2.unread x0)) (arg5.view.read (Elt F) (harg5.unread x3)) (arg6.view.read (Elt F) (harg6.unread x4)) (arg7.view.read (Elt F) (harg7.unread x5)) (arg8.view.read (Elt F) (harg8.unread x6)) 1 (M1 (arg14.view.read (Elt F) (harg14.unread xs0)) 1) (A1 (arg16.view.read (Elt F) (harg16.unread xs2)) 1) 8)) (lT (Q (arg2.view.read (Elt F) (harg2.unread x0)) 1) (KN (arg3.view.read (Elt F) (harg3.unread x1)) 1) (mC (arg2.view.read (Elt F) (harg2.unread x0)) (arg5.view.read (Elt F) (harg5.unread x3)) (arg6.view.read (Elt F) (harg6.unread x4)) 1 (M1 (arg14.view.read (Elt F) (harg14.unread xs0)) 1) 8) (lC (arg2.view.read (Elt F) (harg2.unread x0)) (arg5.view.read (Elt F) (harg5.unread x3)) (arg6.view.read (Elt F) (harg6.unread x4)) 1 (M1 (arg14.view.read (Elt F) (harg14.unread xs0)) 1) (M1 (arg15.view.read (Elt F) (harg15.unread xs1)) 1) 8)) :=
  (congrArg (fun z => View.ld z (Rect.unit (s := S1x2x64x128) ![0, 1, 0, 0] S1x1x64x128.size inb_S1x2x64x128_S1x1x64x128_0_1_0_0)) (View.read_writes_junk_eq_canon _ _)).trans <| (View.readCov_eq_canon' arg9.view _ (Rect.unit (s := S1x2x64x128) ![0, 1, 0, 0] S1x1x64x128.size inb_S1x2x64x128_S1x1x64x128_0_1_0_0).toLoadRect).symm.trans <| (View.readCov_cons_toLoadRect _ _ _ _).trans (congrArg₂ yT (a_1_9 c arg2 harg2 arg3 harg3 arg4 harg4 arg5 harg5 arg6 harg6 arg7 harg7 arg8 harg8 arg14 harg14 arg16 harg16 x0 x1 x2 x3 x4 x5 x6 xs0 xs2) (l_1_9 c arg2 harg2 arg3 harg3 arg5 harg5 arg6 harg6 arg14 harg14 arg15 harg15 x0 x1 x3 x4 xs0 xs1))

/-- Head 1 of what the last point of a row leaves in output 8. -/
theorem O8_1 : View.ld (out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2) (Rect.unit (s := S1x2x4x128) ![0, 1, 0, 0] S1x1x4x128.size inb_S1x2x4x128_S1x1x4x128_0_1_0_0)
    = oC (KN (arg3.view.read (Elt F) (harg3.unread x1)) 1) :=
  (congrArg (fun z => View.ld z (Rect.unit (s := S1x2x4x128) ![0, 1, 0, 0] S1x1x4x128.size inb_S1x2x4x128_S1x1x4x128_0_1_0_0)) (View.read_writes_junk_eq_canon _ _)).trans <| (View.readCov_eq_canon' arg10.view _ (Rect.unit (s := S1x2x4x128) ![0, 1, 0, 0] S1x1x4x128.size inb_S1x2x4x128_S1x1x4x128_0_1_0_0).toLoadRect).symm.trans <| View.readCov_cons_toLoadRect _ _ _ _

/-- Head 1 of what the last point of a row leaves in output 9. -/
theorem O9_1 : View.ld (out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2) (Rect.unit (s := S1x2x4x1) ![0, 1, 0, 0] S1x1x4x1.size inb_S1x2x4x1_S1x1x4x1_0_1_0_0)
    = oS (KN (arg3.view.read (Elt F) (harg3.unread x1)) 1) :=
  (congrArg (fun z => View.ld z (Rect.unit (s := S1x2x4x1) ![0, 1, 0, 0] S1x1x4x1.size inb_S1x2x4x1_S1x1x4x1_0_1_0_0)) (View.read_writes_junk_eq_canon _ _)).trans <| (View.readCov_eq_canon' arg11.view _ (Rect.unit (s := S1x2x4x1) ![0, 1, 0, 0] S1x1x4x1.size inb_S1x2x4x1_S1x1x4x1_0_1_0_0).toLoadRect).symm.trans <| View.readCov_cons_toLoadRect _ _ _ _

/-- Head 1 of what the last point of a row leaves in output 10. -/
theorem O10_1 : View.ld (out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2) (Rect.unit (s := S1x2x4x128) ![0, 1, 0, 0] S1x1x4x128.size inb_S1x2x4x128_S1x1x4x128_0_1_0_0)
    = oC (KN (arg4.view.read (Elt F) (harg4.unread x2)) 1) :=
  (congrArg (fun z => View.ld z (Rect.unit (s := S1x2x4x128) ![0, 1, 0, 0] S1x1x4x128.size inb_S1x2x4x128_S1x1x4x128_0_1_0_0)) (View.read_writes_junk_eq_canon _ _)).trans <| (View.readCov_eq_canon' arg12.view _ (Rect.unit (s := S1x2x4x128) ![0, 1, 0, 0] S1x1x4x128.size inb_S1x2x4x128_S1x1x4x128_0_1_0_0).toLoadRect).symm.trans <| View.readCov_cons_toLoadRect _ _ _ _

/-- Head 1 of what the last point of a row leaves in output 11. -/
theorem O11_1 : View.ld (out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 xs0 xs1 xs2) (Rect.unit (s := S1x2x4x1) ![0, 1, 0, 0] S1x1x4x1.size inb_S1x2x4x1_S1x1x4x1_0_1_0_0)
    = oS (KN (arg4.view.read (Elt F) (harg4.unread x2)) 1) :=
  (congrArg (fun z => View.ld z (Rect.unit (s := S1x2x4x1) ![0, 1, 0, 0] S1x1x4x1.size inb_S1x2x4x1_S1x1x4x1_0_1_0_0)) (View.read_writes_junk_eq_canon _ _)).trans <| (View.readCov_eq_canon' arg13.view _ (Rect.unit (s := S1x2x4x1) ![0, 1, 0, 0] S1x1x4x1.size inb_S1x2x4x1_S1x1x4x1_0_1_0_0).toLoadRect).symm.trans <| View.readCov_cons_toLoadRect _ _ _ _

end Cert.KernelIdeal.BodyC

end
-- ==== Proof.Online.lean ====
module
public import Idealize.ShloMosaic.Lib.Pointwise
@[expose] public section

noncomputable section

namespace Cert.Online

open Idealize.ShloMosaic

/-- An exponential is never negative. -/
theorem exp_nonneg (x : EReal) : 0 ≤ Ideal.exp x := by
  induction x using EReal.rec with
  | bot => simp
  | top => simp
  | coe r => rw [Ideal.exp_coe]; exact_mod_cast (Real.exp_pos r).le

/-- A nonnegative real factor goes into a finite sum. -/
theorem sum_mul_real (n : ℕ) (f : ℕ → EReal) (c : ℝ) (hc : 0 ≤ c) :
    (∑ t ∈ Finset.range n, f t) * (c : EReal) = ∑ t ∈ Finset.range n, f t * (c : EReal) := by
  induction n with
  | zero => simp
  | succ n ih =>
    rw [Finset.sum_range_succ, Finset.sum_range_succ, ← ih]
    exact EReal.right_distrib_of_nonneg_of_ne_top (by exact_mod_cast hc) (EReal.coe_ne_top c) _ _

/-- Changing the number subtracted in the exponents multiplies the whole sum by one factor. -/
theorem rescale (s w : ℕ → EReal) (n : ℕ) (m m' : EReal) (hs : ∀ t, t < n → s t ≤ m) (hle : m ≤ m') :
    (∑ t ∈ Finset.range n, Ideal.exp (s t - m) * w t) * Ideal.exp (m - m')
      = ∑ t ∈ Finset.range n, Ideal.exp (s t - m') * w t := by
  induction m' using EReal.rec with
  | bot =>
    have hm : m = ⊥ := le_bot_iff.mp hle
    subst hm
    rw [show (⊥ : EReal) - ⊥ = ⊥ from rfl, Ideal.exp_bot, mul_zero]
    symm
    apply Finset.sum_eq_zero
    intro t ht
    have : s t = ⊥ := le_bot_iff.mp (hs t (Finset.mem_range.mp ht))
    rw [this, show (⊥ : EReal) - ⊥ = ⊥ from rfl, Ideal.exp_bot, zero_mul]
  | top =>
    have h : ∀ x : EReal, x - ⊤ = ⊥ := fun x => by
      rw [sub_eq_add_neg, EReal.neg_top, EReal.add_bot]
    rw [h, Ideal.exp_bot, mul_zero]
    symm
    apply Finset.sum_eq_zero
    intro t _
    rw [h, Ideal.exp_bot, zero_mul]
  | coe r' =>
    induction m using EReal.rec with
    | bot =>
      rw [EReal.bot_sub, Ideal.exp_bot, mul_zero]
      symm
      apply Finset.sum_eq_zero
      intro t ht
      have : s t = ⊥ := le_bot_iff.mp (hs t (Finset.mem_range.mp ht))
      rw [this, EReal.bot_sub, Ideal.exp_bot, zero_mul]
    | top => exact absurd (top_le_iff.mp hle) (EReal.coe_ne_top r')
    | coe r =>
      have hc : Ideal.exp ((r : EReal) - (r' : EReal)) = ((Real.exp (r - r') : ℝ) : EReal) := by
        rw [← EReal.coe_sub, Ideal.exp_coe]
      rw [hc, sum_mul_real n _ _ (Real.exp_pos _).le]
      apply Finset.sum_congr rfl
      intro t ht
      have h := hs t (Finset.mem_range.mp ht)
      rw [mul_right_comm]
      congr 1
      generalize s t = x at h ⊢
      induction x using EReal.rec with
      | bot => rw [EReal.bot_sub, EReal.bot_sub, Ideal.exp_bot, zero_mul]
      | top => exact absurd (top_le_iff.mp h) (EReal.coe_ne_top r)
      | coe q =>
        rw [← EReal.coe_sub, ← EReal.coe_sub, Ideal.exp_coe, Ideal.exp_coe, ← EReal.coe_mul,
          ← Real.exp_add]
        congr 2
        ring

/-- The state of a row after its first `n` tokens: the largest score, the sum of the exponentials and
    the weighted sum of the values, each exponent taken from that largest score. -/
structure OS {δ : Type} (s : ℕ → EReal) (v : ℕ → δ → EReal) (n : ℕ) (m l : EReal) (a : δ → EReal) : Prop where
  hm : m = (Finset.range n).sup s
  hl : l = ∑ t ∈ Finset.range n, Ideal.exp (s t - m)
  ha : ∀ d, a d = ∑ t ∈ Finset.range n, Ideal.exp (s t - m) * v t d

/-- Before any token. -/
theorem OS.zero {δ : Type} (s : ℕ → EReal) (v : ℕ → δ → EReal) : OS s v 0 ⊥ 0 (fun _ => 0) :=
  ⟨by simp, by simp, by simp⟩

/-- The largest of finitely many numbers, folded from minus infinity. -/
theorem fold_max_eq (k : ℕ) (f : Fin k → EReal) :
    Finset.univ.fold max ⊥ f = (Finset.univ : Finset (Fin k)).sup f := rfl

/-- The largest score over the first `n + k` tokens. -/
theorem sup_add (s : ℕ → EReal) (n k : ℕ) :
    (Finset.range (n + k)).sup s
      = max ((Finset.range n).sup s) ((Finset.univ : Finset (Fin k)).sup fun t => s (n + t.val)) := by
  apply le_antisymm
  · apply Finset.sup_le
    intro t ht
    rw [Finset.mem_range] at ht
    by_cases h : t < n
    · exact le_max_of_le_left (Finset.le_sup (f := s) (Finset.mem_range.mpr h))
    · refine le_max_of_le_right ?_
      have := Finset.le_sup (f := fun t : Fin k => s (n + t.val)) (Finset.mem_univ ⟨t - n, by omega⟩)
      have e : n + (t - n) = t := by omega
      simpa [e] using this
  · apply max_le
    · exact Finset.sup_mono (Finset.range_mono (by omega))
    · apply Finset.sup_le
      intro t _
      exact Finset.le_sup (f := s) (Finset.mem_range.mpr (by omega))

/-- The next `k` tokens: the sums so far are rescaled by one factor and the new terms added. -/
theorem OS.step {δ : Type} {s : ℕ → EReal} {v : ℕ → δ → EReal} {n : ℕ} {m l : EReal} {a : δ → EReal}
    (h : OS s v n m l a) (k : ℕ) (sn : Fin k → EReal) (vn : Fin k → δ → EReal)
    (hsn : ∀ t : Fin k, sn t = s (n + t.val)) (hvn : ∀ (t : Fin k) d, vn t d = v (n + t.val) d)
    (m' l' : EReal) (a' : δ → EReal)
    (em : m' = max m (Finset.univ.fold max ⊥ sn))
    (el : l' = l * Ideal.exp (m - m') + ∑ t, Ideal.exp (sn t - m'))
    (ea : ∀ d, a' d = a d * Ideal.exp (m - m') + ∑ t, Ideal.exp (sn t - m') * vn t d) :
    OS s v (n + k) m' l' a' := by
  obtain rfl : sn = fun t : Fin k => s (n + t.val) := funext hsn
  have hm' : m' = (Finset.range (n + k)).sup s := by rw [em, fold_max_eq, h.hm, sup_add]
  have hs : ∀ t, t < n → s t ≤ m := fun t ht => by
    rw [h.hm]; exact Finset.le_sup (f := s) (Finset.mem_range.mpr ht)
  have hle : m ≤ m' := by rw [em]; exact le_max_left _ _
  refine ⟨hm', ?_, ?_⟩
  · rw [el, h.hl, Finset.sum_range_add]
    have := rescale s (fun _ => 1) n m m' hs hle
    simp only [mul_one] at this
    rw [this, Finset.sum_range (n := k)]
  · intro d
    rw [ea d, h.ha d, Finset.sum_range_add, rescale s (fun t => v t d) n m m' hs hle, Finset.sum_range (n := k)]
    simp only [hvn]

end Cert.Online

end
-- ==== Proof.Spec.lean ====
module
public import proofs.«01_k».proof.Proof.Online
@[expose] public section

noncomputable section

namespace Cert.Spec

open Idealize.ShloMosaic Cert.Online

/-- The bits of the start value of a maximum are minus infinity. -/
theorem ninf : Ideal.ofBits FTy.f32 4286578688#32 = (⊥ : EReal) := by
  simp [Ideal.ofBits, Ideal.ieee]

/-- A code as a number. -/
abbrev sf (b : BitVec 8) : EReal := FloatOps.sitofp (F := Ideal) FTy.bf16 b

/-- The scale of a token: its largest magnitude over 127, or one for a token of zeros. -/
def qscale (f : Fin 128 → EReal) : EReal :=
  if 0 < Finset.univ.fold max (Ideal.ofBits FTy.f32 4286578688#32) (fun x => FloatOps.absf (F := Ideal) (φ := .f32) (f x))
  then Ideal.div
    (Finset.univ.fold max (Ideal.ofBits FTy.f32 4286578688#32) (fun x => FloatOps.absf (F := Ideal) (φ := .f32) (f x)))
    (Ideal.ofBits FTy.f32 1123942400#32)
  else 1

/-- The number a code is read off: the rounded quotient held between -127 and 127. -/
def qnum (f : Fin 128 → EReal) (d : Fin 128) : EReal :=
  min (Ideal.ofBits FTy.f32 1123942400#32) (max (Ideal.ofBits FTy.f32 3271426048#32)
    (Ideal.liftRound Ideal.roundHalfEven (Ideal.div (f d) (qscale f))))

/-- The code of one number of a token. -/
def qcode (f : Fin 128 → EReal) (d : Fin 128) : BitVec 8 :=
  FloatOps.fptosi (F := Ideal) (φ := .f32) 8 (qnum f d)

/-- Token `t` of the sequence: a cached token read off its code and scale, or a new token after its own
    trip through the quantiser. -/
def tok (kc : Fin 16384 → Fin 128 → BitVec 8) (ks : Fin 16384 → EReal) (kn : Fin 4 → Fin 128 → EReal)
    (t : ℕ) (d : Fin 128) : EReal :=
  if h : t < 16384 then sf (kc ⟨t, h⟩ d) * ks ⟨t, h⟩
  else if h' : t - 16384 < 4 then sf (qcode (kn ⟨t - 16384, h'⟩) d) * qscale (kn ⟨t - 16384, h'⟩)
  else 0

/-- The score of token `t` for a query of position `p`. -/
def scr (q : Fin 128 → EReal) (k : ℕ → Fin 128 → EReal) (p : ℕ) (t : ℕ) : EReal :=
  if t ≤ p + 16384 then (∑ d : Fin 128, q d * k t d) * Ideal.ofBits FTy.f32 1035273459#32 else ⊥

/-- Attention over all the tokens, for one query and one component of the values. -/
def att (q : Fin 128 → EReal) (k v : ℕ → Fin 128 → EReal) (p : ℕ) (d : Fin 128) : EReal :=
  Ideal.div
    (∑ t : Fin 16388, Ideal.exp (scr q k p t.val
        - Finset.univ.fold max ⊥ (fun t : Fin 16388 => scr q k p t.val)) * v t.val d)
    (∑ t : Fin 16388, Ideal.exp (scr q k p t.val
        - Finset.univ.fold max ⊥ (fun t : Fin 16388 => scr q k p t.val)))

/-- The largest of a range of numbers, over the range's numbers as a finite type. -/
theorem sup_range (n : ℕ) (s : ℕ → EReal) :
    (Finset.range n).sup s = Finset.univ.fold max ⊥ (fun t : Fin n => s t.val) := by
  have := sup_add s 0 n
  simpa [fold_max_eq] using this

/-- A row's state after all the tokens gives attention. -/
theorem att_of_OS (q : Fin 128 → EReal) (k v : ℕ → Fin 128 → EReal) (p : ℕ) (m l : EReal)
    (a : Fin 128 → EReal) (h : OS (scr q k p) v 16388 m l a) (d : Fin 128) :
    Ideal.div (a d) l = att q k v p d := by
  rw [h.ha d, h.hl, h.hm, sup_range, Finset.sum_range, Finset.sum_range]
  rfl

/-- The bits of zero. -/
theorem b0 : Ideal.ofBits FTy.f32 0#32 = (0 : EReal) := by
  simp [Ideal.ofBits, Ideal.ieee]

/-- The bits of one. -/
theorem b1 : Ideal.ofBits FTy.f32 1065353216#32 = (1 : EReal) := by
  simp [Ideal.ofBits, Ideal.ieee]
  rw [← EReal.coe_mul]
  norm_num

/-- The bits of 127. -/
theorem b127 : Ideal.ofBits FTy.f32 1123942400#32 = ((127 : ℝ) : EReal) := by
  simp [Ideal.ofBits, Ideal.ieee]
  rw [← EReal.coe_mul]
  norm_num

/-- The bits of -127. -/
theorem bm127 : Ideal.ofBits FTy.f32 3271426048#32 = ((-127 : ℝ) : EReal) := by
  simp [Ideal.ofBits, Ideal.ieee]
  rw [← EReal.coe_mul]
  norm_num

/-- A number held between -127 and 127 has the same code through a wide integer. -/
theorem fptosi_narrow (z : EReal) :
    BitVec.setWidth 8 (FloatOps.fptosi (F := Ideal) (φ := .f32) 32
      (min (Ideal.ofBits FTy.f32 1123942400#32) (max (Ideal.ofBits FTy.f32 3271426048#32) z)))
    = FloatOps.fptosi (F := Ideal) (φ := .f32) 8
      (min (Ideal.ofBits FTy.f32 1123942400#32) (max (Ideal.ofBits FTy.f32 3271426048#32) z)) := by
  rw [b127, bm127]
  obtain ⟨r, hr, h1, h2⟩ : ∃ r : ℝ, (min ((127 : ℝ) : EReal) (max ((-127 : ℝ) : EReal) z)) = (r : EReal) ∧ -127 ≤ r ∧ r ≤ 127 := by
    induction z using EReal.rec with
    | bot => exact ⟨-127, by rw [max_eq_left bot_le, min_eq_right (EReal.coe_le_coe_iff.mpr (by norm_num))], by norm_num, by norm_num⟩
    | top => exact ⟨127, by rw [max_eq_right le_top, min_eq_left le_top], by norm_num, by norm_num⟩
    | coe x =>
      refine ⟨min 127 (max (-127) x), by rw [EReal.coe_strictMono.monotone.map_min, EReal.coe_strictMono.monotone.map_max], ?_, min_le_left _ _⟩
      exact le_min (by norm_num) (le_max_left _ _)
  rw [hr]
  show BitVec.setWidth 8 (Ideal.fptosi 32 (r : EReal)) = Ideal.fptosi 8 (r : EReal)
  simp only [Ideal.fptosi, Ideal.toIntClamped_coe]
  have e : ∃ k : ℤ, (if 0 ≤ r then ⌊r⌋ else ⌈r⌉) = k ∧ -127 ≤ k ∧ k ≤ 127 := by
    refine ⟨_, rfl, ?_, ?_⟩
    · split
      · exact Int.le_floor.mpr (by push_cast; linarith)
      · exact (Int.cast_le (R := ℝ)).mp (by push_cast; exact le_trans h1 (Int.le_ceil r))
    · split
      · exact (Int.cast_le (R := ℝ)).mp (by push_cast; exact le_trans (Int.floor_le r) h2)
      · exact Int.ceil_le.mpr (by push_cast; linarith)
  obtain ⟨k, hk, k1, k2⟩ := e
  rw [hk]
  have a1 : max (-((2 ^ (32 - 1) : ℕ) : ℤ)) (min (((2 ^ (32 - 1) : ℕ) : ℤ) - 1) k) = k := by
    norm_num; omega
  have a2 : max (-((2 ^ (8 - 1) : ℕ) : ℤ)) (min (((2 ^ (8 - 1) : ℕ) : ℤ) - 1) k) = k := by
    norm_num; omega
  rw [a1, a2]
  clear * - k1 k2
  interval_cases k <;> decide +kernel

end Cert.Spec

end
-- ==== Proof.Step.lean ====
module
public import proofs.«01_k».proof.Proof.Tail
public import proofs.«01_k».proof.Proof.Spec
public import Idealize.ShloMosaic.Lib.Pointwise
@[expose] public section

set_option maxRecDepth 16384

noncomputable section

namespace Cert.KernelIdeal.Chunk

open Idealize.ShloMosaic Cert.KernelIdeal Cert.KernelIdeal.Gen Cert.Online Cert.Spec

/-- The score of a cached token for a row. -/
theorem s_at (q : Vec Ideal S1x1x64x128 .bf16) (ks : Vec Ideal S1x1x512 .f32)
    (kc : Vec Ideal S1x1x512x128 .i8) (r : Fin 64) (t : Fin 512) :
    k0_pay54 q ks kc (ix2 r t)
      = (∑ d : Fin 128, q (ix4 0 0 r d) * (sf (kc (ix4 0 0 t d)) * ks (ix3 0 0 t)))
        * Ideal.ofBits FTy.f32 1035273459#32 := by
  pointwise [k0_pay54, k0_pay52]

/-- The new running maximum of a row. -/
theorem p56_at (q : Vec Ideal S1x1x64x128 .bf16) (ks : Vec Ideal S1x1x512 .f32)
    (kc : Vec Ideal S1x1x512x128 .i8) (m : Vec Ideal S1x64x1 .f32) (r : Fin 64) :
    k0_pay56 q ks kc m (ix2 r 0)
      = max (m (ix3 0 r 0)) (Finset.univ.fold max ⊥ fun t : Fin 512 => k0_pay54 q ks kc (ix2 r t)) := by
  rw [← ninf]
  pointwise [k0_pay56, k0_pay55]

/-- The stored running maximum is that maximum. -/
theorem m_at (q : Vec Ideal S1x1x64x128 .bf16) (ks : Vec Ideal S1x1x512 .f32)
    (kc : Vec Ideal S1x1x512x128 .i8) (m : Vec Ideal S1x64x1 .f32) (r : Fin 64) :
    mN q ks kc m (ix3 0 r 0) = k0_pay56 q ks kc m (ix2 r 0) := by
  pointwise [mN, k0_pay61]

/-- The running denominator of a row after a chunk. -/
theorem l_at (q : Vec Ideal S1x1x64x128 .bf16) (ks : Vec Ideal S1x1x512 .f32)
    (kc : Vec Ideal S1x1x512x128 .i8) (m l : Vec Ideal S1x64x1 .f32) (r : Fin 64) :
    lN q ks kc m l (ix3 0 r 0)
      = l (ix3 0 r 0) * Ideal.exp (m (ix3 0 r 0) - k0_pay56 q ks kc m (ix2 r 0))
        + ∑ t : Fin 512, Ideal.exp (k0_pay54 q ks kc (ix2 r t) - k0_pay56 q ks kc m (ix2 r 0)) := by
  pointwise [lN, k0_pay59, k0_pay57, k0_pay58, k0_pay55]

/-- The running weighted sum of a row after a chunk. -/
theorem a_at (q : Vec Ideal S1x1x64x128 .bf16) (ks : Vec Ideal S1x1x512 .f32)
    (kc : Vec Ideal S1x1x512x128 .i8) (vs : Vec Ideal S1x1x512 .f32) (vc : Vec Ideal S1x1x512x128 .i8)
    (m : Vec Ideal S1x64x1 .f32) (a : Vec Ideal S1x64x128 .f32) (r : Fin 64) (d : Fin 128) :
    aN q ks kc vs vc m a (ix3 0 r d)
      = a (ix3 0 r d) * Ideal.exp (m (ix3 0 r 0) - k0_pay56 q ks kc m (ix2 r 0))
        + ∑ t : Fin 512, Ideal.exp (k0_pay54 q ks kc (ix2 r t) - k0_pay56 q ks kc m (ix2 r 0))
          * (sf (vc (ix4 0 0 t d)) * vs (ix3 0 0 t)) := by
  pointwise [aN, k0_pay60, k0_pay57, k0_pay58, k0_pay55, k0_pay53]

/-- One chunk of cached tokens advances a row's state by 512 tokens. -/
theorem OS_chunk (s : ℕ → EReal) (v : ℕ → Fin 128 → EReal) (n : ℕ)
    (q : Vec Ideal S1x1x64x128 .bf16) (ks : Vec Ideal S1x1x512 .f32)
    (kc : Vec Ideal S1x1x512x128 .i8) (vs : Vec Ideal S1x1x512 .f32) (vc : Vec Ideal S1x1x512x128 .i8)
    (m l : Vec Ideal S1x64x1 .f32) (a : Vec Ideal S1x64x128 .f32) (r : Fin 64)
    (h : OS s v n (m (ix3 0 r 0)) (l (ix3 0 r 0)) (fun d => a (ix3 0 r d)))
    (hs : ∀ t : Fin 512, k0_pay54 q ks kc (ix2 r t) = s (n + t.val))
    (hv : ∀ (t : Fin 512) (d : Fin 128),
      (sf (vc (ix4 0 0 t d)) * vs (ix3 0 0 t) : EReal) = v (n + t.val) d) :
    OS s v (n + 512) (mN q ks kc m (ix3 0 r 0)) (lN q ks kc m l (ix3 0 r 0))
      (fun d => aN q ks kc vs vc m a (ix3 0 r d)) := by
  refine h.step 512 (fun t => k0_pay54 q ks kc (ix2 r t))
    (fun t d => (sf (vc (ix4 0 0 t d)) * vs (ix3 0 0 t) : EReal)) hs hv _ _ _ ?_ ?_ ?_
  · rw [m_at, p56_at]
  · rw [l_at, m_at]
  · intro d
    rw [a_at, m_at]

/-- Eight chunks advance a row's state by a whole block. -/
theorem OS_block (s : ℕ → EReal) (v : ℕ → Fin 128 → EReal) (n : ℕ) (h : ℕ)
    (x0 : Vec Ideal S1x2x64x128 .bf16) (x3 : Vec Ideal S1x2x4096x128 .i8) (x4 : Vec Ideal S1x2x4096 .f32)
    (x5 : Vec Ideal S1x2x4096x128 .i8) (x6 : Vec Ideal S1x2x4096 .f32)
    (m l : Vec Ideal S1x64x1 .f32) (a : Vec Ideal S1x64x128 .f32) (r : Fin 64)
    (H : OS s v n (m (ix3 0 r 0)) (l (ix3 0 r 0)) (fun d => a (ix3 0 r d)))
    (hs : ∀ k, k < 8 → ∀ t : Fin 512,
      k0_pay54 (Q x0 h) (KS x4 h k) (KC x3 h k) (ix2 r t) = s (n + 512 * k + t.val))
    (hv : ∀ k, k < 8 → ∀ (t : Fin 512) (d : Fin 128),
      (sf (KC x5 h k (ix4 0 0 t d)) * KS x6 h k (ix3 0 0 t) : EReal)
        = v (n + 512 * k + t.val) d) :
    ∀ k, k ≤ 8 → OS s v (n + 512 * k) (mC x0 x3 x4 h m k (ix3 0 r 0)) (lC x0 x3 x4 h m l k (ix3 0 r 0))
      (fun d => aC x0 x3 x4 x5 x6 h m a k (ix3 0 r d)) := by
  intro k
  induction k with
  | zero => intro _; exact H
  | succ k ih =>
    intro hk
    have := OS_chunk s v (n + 512 * k) _ _ _ (KS x6 h k) (KC x5 h k) _ _ _ r (ih (by omega))
      (hs k (by omega)) (hv k (by omega))
    rw [show n + 512 * (k + 1) = n + 512 * k + 512 by ring]
    exact this

/-- The largest of a new row of scores joins the running maximum. -/
theorem mt_at (q : Vec Ideal S1x1x64x128 .bf16) (kn : Vec Ideal S1x1x4x128 .bf16)
    (m : Vec Ideal S1x64x1 .f32) (r : Fin 64) :
    mT q kn m (ix2 r 0)
      = max (m (ix3 0 r 0)) (Finset.univ.fold max ⊥ fun t : Fin 4 => sT q kn (ix2 r t)) := by
  rw [← ninf]
  pointwise [mT, k0_pay18, k0_pay17, sT]

/-- The denominator after the new tokens. -/
theorem lt_at (q : Vec Ideal S1x1x64x128 .bf16) (kn : Vec Ideal S1x1x4x128 .bf16)
    (m l : Vec Ideal S1x64x1 .f32) (r : Fin 64) :
    lT q kn m l (ix3 0 r 0)
      = l (ix3 0 r 0) * Ideal.exp (m (ix3 0 r 0) - mT q kn m (ix2 r 0))
        + ∑ t : Fin 4, Ideal.exp (sT q kn (ix2 r t) - mT q kn m (ix2 r 0)) := by
  pointwise [lT, k0_pay21, k0_pay20, k0_pay19, k0_pay17, sT, mT]

/-- The weighted sum after the new tokens. -/
theorem at_at (q : Vec Ideal S1x1x64x128 .bf16) (kn vn : Vec Ideal S1x1x4x128 .bf16)
    (m : Vec Ideal S1x64x1 .f32) (a : Vec Ideal S1x64x128 .f32) (r : Fin 64) (d : Fin 128) :
    aT q kn vn m a (ix3 0 r d)
      = a (ix3 0 r d) * Ideal.exp (m (ix3 0 r 0) - mT q kn m (ix2 r 0))
        + ∑ t : Fin 4, Ideal.exp (sT q kn (ix2 r t) - mT q kn m (ix2 r 0))
          * (sf (qC vn (ix2 t d)) * qS vn (ix2 t 0)) := by
  pointwise [aT, k0_pay23, k0_pay22, k0_pay20, k0_pay19, k0_pay17, k0_pay15, sT, mT]

/-- The new tokens advance a row's state by four tokens. -/
theorem OS_tail (s : ℕ → EReal) (v : ℕ → Fin 128 → EReal) (n : ℕ)
    (q : Vec Ideal S1x1x64x128 .bf16) (kn vn : Vec Ideal S1x1x4x128 .bf16)
    (m l : Vec Ideal S1x64x1 .f32) (a : Vec Ideal S1x64x128 .f32) (r : Fin 64)
    (h : OS s v n (m (ix3 0 r 0)) (l (ix3 0 r 0)) (fun d => a (ix3 0 r d)))
    (hs : ∀ t : Fin 4, sT q kn (ix2 r t) = s (n + t.val))
    (hv : ∀ (t : Fin 4) (d : Fin 128),
      (sf (qC vn (ix2 t d)) * qS vn (ix2 t 0) : EReal) = v (n + t.val) d) :
    OS s v (n + 4) (mT q kn m (ix2 r 0)) (lT q kn m l (ix3 0 r 0))
      (fun d => aT q kn vn m a (ix3 0 r d)) := by
  refine h.step 4 (fun t => sT q kn (ix2 r t))
    (fun t d => (sf (qC vn (ix2 t d)) * qS vn (ix2 t 0) : EReal)) hs hv _ _ _ ?_ ?_ ?_
  · rw [mt_at]
  · rw [lt_at]
  · intro d
    rw [at_at]

/-- A result is the weighted sum over the denominator. -/
theorem y_at (l : Vec Ideal S1x64x1 .f32) (a : Vec Ideal S1x64x128 .f32) (r : Fin 64) (d : Fin 128) :
    yT a l (ix4 0 0 r d) = Ideal.div (a (ix3 0 r d)) (l (ix3 0 r 0)) := by
  pointwise [yT, k0_pay25]

/-- A new token's scale. -/
theorem qS_at (kn : Vec Ideal S1x1x4x128 .bf16) (t : Fin 4) :
    qS kn (ix2 t 0) = qscale (fun d => kn (ix4 0 0 t d)) := by
  pointwise [qS, k0_pay5, k0_pay4, qscale]

/-- A new token's code. -/
theorem qC_at (kn : Vec Ideal S1x1x4x128 .bf16) (t : Fin 4) (d : Fin 128) :
    qC kn (ix2 t d) = qcode (fun d => kn (ix4 0 0 t d)) d := by
  rw [qcode, qnum, ← qS_at]
  pointwise! [qC, k0_pay7, k0_pay6, k0_pay4, qS, c127]

/-- The sequence position a row is of. -/
theorem pay3_at (r : Fin 64) (t : Fin 4) : k0_pay3 (ix2 r t) = BitVec.ofNat 32 (r.val / 16) := by
  pointwise [k0_pay3]
  revert r
  decide +kernel

/-- The score of a new token for a row. -/
theorem st_at (q : Vec Ideal S1x1x64x128 .bf16) (kn : Vec Ideal S1x1x4x128 .bf16) (r : Fin 64) (t : Fin 4) :
    sT q kn (ix2 r t)
      = if t.val ≤ r.val / 16 then
          (∑ d : Fin 128, q (ix4 0 0 r d) * (sf (qcode (fun d => kn (ix4 0 0 t d)) d)
            * qscale (fun d => kn (ix4 0 0 t d)))) * Ideal.ofBits FTy.f32 1035273459#32
        else ⊥ := by
  have e : (fun d : Fin 128 => q (ix4 0 0 r d) * (sf (qcode (fun d => kn (ix4 0 0 t d)) d)
            * qscale (fun d => kn (ix4 0 0 t d)))) = fun d : Fin 128 => q (ix4 0 0 r d) * (sf (qC kn (ix2 t d))
            * qS kn (ix2 t 0)) := by
    funext d; rw [qC_at, qS_at]
  rw [e]
  rw [← ninf]
  have h3 := pay3_at r t
  pointwise [sT, k0_pay16, colTok, h3]
  have hc : IntOp.cmpi CmpIPredicate.sle (BitVec.ofNat 32 t.val) (BitVec.ofNat 32 (r.val / 16))
      = if t.val ≤ r.val / 16 then 1#1 else 0#1 := by
    clear e h3
    revert r t
    decide +kernel
  rw [hc]
  split <;> rfl

end Cert.KernelIdeal.Chunk

end
-- ==== Proof.Points.lean ====
module
public import proofs.«01_k».proof.Proof.Entry
public import proofs.«01_k».proof.Proof.BodyA
public import proofs.«01_k».proof.Proof.BodyB
public import proofs.«01_k».proof.Proof.BodyC
public import proofs.«01_k».proof.Proof.Step
@[expose] public section

set_option maxRecDepth 16384

noncomputable section

namespace Cert.KernelIdeal.Points

open Idealize.ShloMosaic Idealize.ShloMosaic.TcCoe Cert.KernelIdeal Cert.KernelIdeal.Gen Cert.KernelIdeal.Chunk Cert.KernelIdeal.Entry Cert.Online Cert.Spec

/-- Head `h`'s rows of the query block, at an index. -/
theorem Q_at (x0 : Vec Ideal S1x2x64x128 .bf16) (h : Fin 2) (r : Fin 64) (d : Fin 128) :
    Q x0 h.val (ix4 0 0 r d) = x0 (ix4 0 h r d) := by
  pointwise [Q]
  fin_cases h <;> rfl

/-- Head `h`'s codes of a chunk, at an index. -/
theorem KC_at (x3 : Vec Ideal S1x2x4096x128 .i8) (h : Fin 2) (k : Fin 8) (u : Fin 512) (d : Fin 128) :
    KC x3 h.val k.val (ix4 0 0 u d) = x3 (ix4 0 h ⟨512 * k.val + u.val, by omega⟩ d) := by
  pointwise [KC]
  refine congrArg₂ (fun i j => x3 (ix4 0 i j d)) (Fin.ext ?_) (Fin.ext ?_) <;> simp only [] <;> omega

/-- Head `h`'s scales of a chunk, at an index. -/
theorem KS_at (x4 : Vec Ideal S1x2x4096 .f32) (h : Fin 2) (k : Fin 8) (u : Fin 512) :
    KS x4 h.val k.val (ix3 0 0 u) = x4 (ix3 0 h ⟨512 * k.val + u.val, by omega⟩) := by
  pointwise [KS]
  refine congrArg₂ (fun i j => x4 (ix3 0 i j)) (Fin.ext ?_) (Fin.ext ?_) <;> simp only [] <;> omega

/-- Head `h`'s new tokens, at an index. -/
theorem KN_at (x1 : Vec Ideal S1x2x4x128 .bf16) (h : Fin 2) (s : Fin 4) (d : Fin 128) :
    KN x1 h.val (ix4 0 0 s d) = x1 (ix4 0 h s d) := by
  pointwise [KN]
  fin_cases h <;> rfl

variable (m : (ℓ : Loc nD τ sig) → Buf (Elt Ideal) ℓ) (c : Dev nD)

/-- The query of a row. -/
def qf (b : Fin 64) (h : Fin 2) (r : Fin 64) (d : Fin 128) : EReal :=
  m ((c : Thread nD τ).loc main_arg0) (ix3 b ⟨r.val / 16, by omega⟩ ⟨h.val * 2048 + (r.val % 16) * 128 + d.val, by omega⟩)

/-- The dequantised keys of a batch element and head. -/
def kf (b : Fin 64) (h : Fin 2) : ℕ → Fin 128 → EReal :=
  tok (fun t d => m ((c : Thread nD τ).loc main_arg3) (ix4 b t h d)) (fun t => m ((c : Thread nD τ).loc main_arg4) (ix3 b t h))
    (fun t d => m ((c : Thread nD τ).loc main_arg1) (ix4 b t h d))

/-- The dequantised values of a batch element and head. -/
def vf (b : Fin 64) (h : Fin 2) : ℕ → Fin 128 → EReal :=
  tok (fun t d => m ((c : Thread nD τ).loc main_arg5) (ix4 b t h d)) (fun t => m ((c : Thread nD τ).loc main_arg6) (ix3 b t h))
    (fun t d => m ((c : Thread nD τ).loc main_arg2) (ix4 b t h d))

/-- One point's block of cached tokens carries a row's state on by 4096 tokens. -/
theorem block (t : Fin cfg0.N) (h : Fin 2) (r : Fin 64) (mm l : Vec Ideal S1x64x1 .f32) (a : Vec Ideal S1x64x128 .f32)
    (H : OS (scr (qf m c (bt t) h r) (kf m c (bt t) h) (r.val / 16)) (vf m c (bt t) h) (4096 * (t.val % 4))
      (mm (ix3 0 r 0)) (l (ix3 0 r 0)) (fun d => a (ix3 0 r d))) :
    OS (scr (qf m c (bt t) h r) (kf m c (bt t) h) (r.val / 16)) (vf m c (bt t) h) (4096 * (t.val % 4 + 1))
      (mC (iblk m c 0 t) (iblk m c 3 t) (iblk m c 4 t) h.val mm 8 (ix3 0 r 0))
      (lC (iblk m c 0 t) (iblk m c 3 t) (iblk m c 4 t) h.val mm l 8 (ix3 0 r 0))
      (fun d => aC (iblk m c 0 t) (iblk m c 3 t) (iblk m c 4 t) (iblk m c 5 t) (iblk m c 6 t) h.val mm a 8 (ix3 0 r d)) := by
  have ht : t.val % 4 < 4 := Nat.mod_lt _ (by decide)
  have e : 4096 * (t.val % 4 + 1) = 4096 * (t.val % 4) + 512 * 8 := by omega
  rw [e]
  refine OS_block _ _ _ h.val _ _ _ _ _ mm l a r H ?_ ?_ 8 le_rfl
  · intro k hk u
    have hu := u.isLt
    rw [s_at, scr, if_pos (by omega)]
    refine congrArg (· * _) (Finset.sum_congr rfl fun d _ => ?_)
    rw [Q_at, KC_at _ h ⟨k, hk⟩, KS_at _ h ⟨k, hk⟩, iblk0, iblk3, iblk4, kf, tok, dif_pos (by omega)]
    refine congrArg₂ (· * ·) rfl (congrArg₂ (fun x y : EReal => x * y) ?_ ?_)
    · refine congrArg (fun i => sf (m ((c : Thread nD τ).loc main_arg3) (ix4 (bt t) i h d))) (Fin.ext ?_)
      show 4096 * (t.val % 4) + (512 * k + u.val) = 4096 * (t.val % 4) + 512 * k + u.val
      omega
    · refine congrArg (fun i => m ((c : Thread nD τ).loc main_arg4) (ix3 (bt t) i h)) (Fin.ext ?_)
      show 4096 * (t.val % 4) + (512 * k + u.val) = 4096 * (t.val % 4) + 512 * k + u.val
      omega
  · intro k hk u d
    have hu := u.isLt
    rw [KC_at _ h ⟨k, hk⟩, KS_at _ h ⟨k, hk⟩, iblk5, iblk6, vf, tok, dif_pos (by omega)]
    refine congrArg₂ (fun x y : EReal => x * y) ?_ ?_
    · refine congrArg (fun i => sf (m ((c : Thread nD τ).loc main_arg5) (ix4 (bt t) i h d))) (Fin.ext ?_)
      show 4096 * (t.val % 4) + (512 * k + u.val) = 4096 * (t.val % 4) + 512 * k + u.val
      omega
    · refine congrArg (fun i => m ((c : Thread nD τ).loc main_arg6) (ix3 (bt t) i h)) (Fin.ext ?_)
      show 4096 * (t.val % 4) + (512 * k + u.val) = 4096 * (t.val % 4) + 512 * k + u.val
      omega

/-- A scratch buffer read whole gives what was put there. -/
theorem wread0 (X) : View.read (Elt Ideal) (View.whole cc0_scratch0) ((Memref.isWhole_whole cc0_scratch0).unread X) = X :=
  (Memref.isWhole_whole cc0_scratch0).read_unread X

/-- A scratch buffer read whole gives what was put there. -/
theorem wread1 (X) : View.read (Elt Ideal) (View.whole cc0_scratch1) ((Memref.isWhole_whole cc0_scratch1).unread X) = X :=
  (Memref.isWhole_whole cc0_scratch1).read_unread X

/-- A scratch buffer read whole gives what was put there. -/
theorem wread2 (X) : View.read (Elt Ideal) (View.whole cc0_scratch2) ((Memref.isWhole_whole cc0_scratch2).unread X) = X :=
  (Memref.isWhole_whole cc0_scratch2).read_unread X

/-- Head 0's running maximum after the first point of a row. -/
theorem AM_0 (t : Fin cfg0.N) (h0 : t.val % 4 = 0) (h1 : ¬t.val % 4 = 3) :
    M1 (outsAt0 m c t.val t.isLt).2.2.2.2.2.1 0 = mC (iblk m c 0 t) (iblk m c 3 t) (iblk m c 4 t) 0 (M1 (k0_pay49 (F := Ideal)) 0) 8 := by
  rw [outsAt0_A m c t h0 h1]
  refine (@BodyA.M_0 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).trans ?_
  simp only [Memref.IsWhole.read_unread, wread0, wread1, wread2]

/-- Head 1's running maximum after the first point of a row. -/
theorem AM_1 (t : Fin cfg0.N) (h0 : t.val % 4 = 0) (h1 : ¬t.val % 4 = 3) :
    M1 (outsAt0 m c t.val t.isLt).2.2.2.2.2.1 1 = mC (iblk m c 0 t) (iblk m c 3 t) (iblk m c 4 t) 1 (M1 (k0_pay49 (F := Ideal)) 1) 8 := by
  rw [outsAt0_A m c t h0 h1]
  refine (@BodyA.M_1 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).trans ?_
  simp only [Memref.IsWhole.read_unread, wread0, wread1, wread2]

/-- Head 0's running denominator after the first point of a row. -/
theorem AL_0 (t : Fin cfg0.N) (h0 : t.val % 4 = 0) (h1 : ¬t.val % 4 = 3) :
    M1 (outsAt0 m c t.val t.isLt).2.2.2.2.2.2.1 0 = lC (iblk m c 0 t) (iblk m c 3 t) (iblk m c 4 t) 0 (M1 (k0_pay49 (F := Ideal)) 0) (M1 (k0_pay50 (F := Ideal)) 0) 8 := by
  rw [outsAt0_A m c t h0 h1]
  refine (@BodyA.L_0 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).trans ?_
  simp only [Memref.IsWhole.read_unread, wread0, wread1, wread2]

/-- Head 1's running denominator after the first point of a row. -/
theorem AL_1 (t : Fin cfg0.N) (h0 : t.val % 4 = 0) (h1 : ¬t.val % 4 = 3) :
    M1 (outsAt0 m c t.val t.isLt).2.2.2.2.2.2.1 1 = lC (iblk m c 0 t) (iblk m c 3 t) (iblk m c 4 t) 1 (M1 (k0_pay49 (F := Ideal)) 1) (M1 (k0_pay50 (F := Ideal)) 1) 8 := by
  rw [outsAt0_A m c t h0 h1]
  refine (@BodyA.L_1 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).trans ?_
  simp only [Memref.IsWhole.read_unread, wread0, wread1, wread2]

/-- Head 0's running weighted sum after the first point of a row. -/
theorem AA_0 (t : Fin cfg0.N) (h0 : t.val % 4 = 0) (h1 : ¬t.val % 4 = 3) :
    A1 (outsAt0 m c t.val t.isLt).2.2.2.2.2.2.2 0 = aC (iblk m c 0 t) (iblk m c 3 t) (iblk m c 4 t) (iblk m c 5 t) (iblk m c 6 t) 0 (M1 (k0_pay49 (F := Ideal)) 0) (A1 (k0_pay51 (F := Ideal)) 0) 8 := by
  have e := @BodyA.A_0 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)
  rw [outsAt0_A m c t h0 h1]
  dsimp only
  rw [e]
  simp only [Memref.IsWhole.read_unread, wread0, wread1, wread2]

/-- Head 1's running weighted sum after the first point of a row. -/
theorem AA_1 (t : Fin cfg0.N) (h0 : t.val % 4 = 0) (h1 : ¬t.val % 4 = 3) :
    A1 (outsAt0 m c t.val t.isLt).2.2.2.2.2.2.2 1 = aC (iblk m c 0 t) (iblk m c 3 t) (iblk m c 4 t) (iblk m c 5 t) (iblk m c 6 t) 1 (M1 (k0_pay49 (F := Ideal)) 1) (A1 (k0_pay51 (F := Ideal)) 1) 8 := by
  have e := @BodyA.A_1 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)
  rw [outsAt0_A m c t h0 h1]
  dsimp only
  rw [e]
  simp only [Memref.IsWhole.read_unread, wread0, wread1, wread2]

/-- Head 0's running maximum after the middle point of a row. -/
theorem BM_0 (t : Fin cfg0.N) (h0 : ¬t.val % 4 = 0) (h1 : ¬t.val % 4 = 3) :
    M1 (outsAt0 m c t.val t.isLt).2.2.2.2.2.1 0 = mC (iblk m c 0 t) (iblk m c 3 t) (iblk m c 4 t) 0 (M1 (outsAt0 m c (t.val - 1) (Nat.lt_of_le_of_lt (Nat.sub_le _ _) t.isLt)).2.2.2.2.2.1 0) 8 := by
  rw [outsAt0_B m c t h0 h1]
  refine (@BodyB.M_0 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2).trans ?_
  simp only [Memref.IsWhole.read_unread, wread0, wread1, wread2]

/-- Head 1's running maximum after the middle point of a row. -/
theorem BM_1 (t : Fin cfg0.N) (h0 : ¬t.val % 4 = 0) (h1 : ¬t.val % 4 = 3) :
    M1 (outsAt0 m c t.val t.isLt).2.2.2.2.2.1 1 = mC (iblk m c 0 t) (iblk m c 3 t) (iblk m c 4 t) 1 (M1 (outsAt0 m c (t.val - 1) (Nat.lt_of_le_of_lt (Nat.sub_le _ _) t.isLt)).2.2.2.2.2.1 1) 8 := by
  rw [outsAt0_B m c t h0 h1]
  refine (@BodyB.M_1 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2).trans ?_
  simp only [Memref.IsWhole.read_unread, wread0, wread1, wread2]

/-- Head 0's running denominator after the middle point of a row. -/
theorem BL_0 (t : Fin cfg0.N) (h0 : ¬t.val % 4 = 0) (h1 : ¬t.val % 4 = 3) :
    M1 (outsAt0 m c t.val t.isLt).2.2.2.2.2.2.1 0 = lC (iblk m c 0 t) (iblk m c 3 t) (iblk m c 4 t) 0 (M1 (outsAt0 m c (t.val - 1) (Nat.lt_of_le_of_lt (Nat.sub_le _ _) t.isLt)).2.2.2.2.2.1 0) (M1 (outsAt0 m c (t.val - 1) (Nat.lt_of_le_of_lt (Nat.sub_le _ _) t.isLt)).2.2.2.2.2.2.1 0) 8 := by
  rw [outsAt0_B m c t h0 h1]
  refine (@BodyB.L_0 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2).trans ?_
  simp only [Memref.IsWhole.read_unread, wread0, wread1, wread2]

/-- Head 1's running denominator after the middle point of a row. -/
theorem BL_1 (t : Fin cfg0.N) (h0 : ¬t.val % 4 = 0) (h1 : ¬t.val % 4 = 3) :
    M1 (outsAt0 m c t.val t.isLt).2.2.2.2.2.2.1 1 = lC (iblk m c 0 t) (iblk m c 3 t) (iblk m c 4 t) 1 (M1 (outsAt0 m c (t.val - 1) (Nat.lt_of_le_of_lt (Nat.sub_le _ _) t.isLt)).2.2.2.2.2.1 1) (M1 (outsAt0 m c (t.val - 1) (Nat.lt_of_le_of_lt (Nat.sub_le _ _) t.isLt)).2.2.2.2.2.2.1 1) 8 := by
  rw [outsAt0_B m c t h0 h1]
  refine (@BodyB.L_1 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2).trans ?_
  simp only [Memref.IsWhole.read_unread, wread0, wread1, wread2]

/-- Head 0's running weighted sum after the middle point of a row. -/
theorem BA_0 (t : Fin cfg0.N) (h0 : ¬t.val % 4 = 0) (h1 : ¬t.val % 4 = 3) :
    A1 (outsAt0 m c t.val t.isLt).2.2.2.2.2.2.2 0 = aC (iblk m c 0 t) (iblk m c 3 t) (iblk m c 4 t) (iblk m c 5 t) (iblk m c 6 t) 0 (M1 (outsAt0 m c (t.val - 1) (Nat.lt_of_le_of_lt (Nat.sub_le _ _) t.isLt)).2.2.2.2.2.1 0) (A1 (outsAt0 m c (t.val - 1) (Nat.lt_of_le_of_lt (Nat.sub_le _ _) t.isLt)).2.2.2.2.2.2.2 0) 8 := by
  rw [outsAt0_B m c t h0 h1]
  refine (@BodyB.A_0 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2).trans ?_
  simp only [Memref.IsWhole.read_unread, wread0, wread1, wread2]

/-- Head 1's running weighted sum after the middle point of a row. -/
theorem BA_1 (t : Fin cfg0.N) (h0 : ¬t.val % 4 = 0) (h1 : ¬t.val % 4 = 3) :
    A1 (outsAt0 m c t.val t.isLt).2.2.2.2.2.2.2 1 = aC (iblk m c 0 t) (iblk m c 3 t) (iblk m c 4 t) (iblk m c 5 t) (iblk m c 6 t) 1 (M1 (outsAt0 m c (t.val - 1) (Nat.lt_of_le_of_lt (Nat.sub_le _ _) t.isLt)).2.2.2.2.2.1 1) (A1 (outsAt0 m c (t.val - 1) (Nat.lt_of_le_of_lt (Nat.sub_le _ _) t.isLt)).2.2.2.2.2.2.2 1) 8 := by
  rw [outsAt0_B m c t h0 h1]
  refine (@BodyB.A_1 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2).trans ?_
  simp only [Memref.IsWhole.read_unread, wread0, wread1, wread2]

end Cert.KernelIdeal.Points

end
-- ==== Proof.Carry.lean ====
module
public import proofs.«01_k».proof.Proof.Points
@[expose] public section

set_option maxRecDepth 16384

noncomputable section

namespace Cert.KernelIdeal.Points

open Idealize.ShloMosaic Idealize.ShloMosaic.TcCoe Cert.KernelIdeal Cert.KernelIdeal.Gen Cert.KernelIdeal.Chunk Cert.KernelIdeal.Entry Cert.Online Cert.Spec

/-- The running maximum starts at minus infinity. -/
theorem i49 (h : Fin 2) (r : Fin 64) : M1 (F := Ideal) (k0_pay49 (F := Ideal)) h.val (ix3 0 r 0) = (⊥ : EReal) := by
  pointwise [M1, k0_pay49]
  exact ninf

/-- The running denominator starts at zero. -/
theorem i50 (h : Fin 2) (r : Fin 64) : M1 (F := Ideal) (k0_pay50 (F := Ideal)) h.val (ix3 0 r 0) = (0 : EReal) := by
  pointwise [M1, k0_pay50]

/-- The running weighted sum starts at zero. -/
theorem i51 (h : Fin 2) (r : Fin 64) (d : Fin 128) : A1 (F := Ideal) (k0_pay51 (F := Ideal)) h.val (ix3 0 r d) = (0 : EReal) := by
  pointwise [A1, k0_pay51]

variable (m : (ℓ : Loc nD τ sig) → Buf (Elt Ideal) ℓ) (c : Dev nD)

/-- A head's running maximum after the first point of a row. -/
theorem AM (t : Fin cfg0.N) (h0 : t.val % 4 = 0) (h1 : ¬t.val % 4 = 3) : ∀ h : Fin 2,
    M1 (outsAt0 m c t.val t.isLt).2.2.2.2.2.1 h.val = mC (iblk m c 0 t) (iblk m c 3 t) (iblk m c 4 t) h.val (M1 (k0_pay49 (F := Ideal)) h.val) 8 :=
  Fin.forall_fin_two.mpr ⟨AM_0 m c t h0 h1, AM_1 m c t h0 h1⟩

/-- A head's running denominator after the first point of a row. -/
theorem AL (t : Fin cfg0.N) (h0 : t.val % 4 = 0) (h1 : ¬t.val % 4 = 3) : ∀ h : Fin 2,
    M1 (outsAt0 m c t.val t.isLt).2.2.2.2.2.2.1 h.val = lC (iblk m c 0 t) (iblk m c 3 t) (iblk m c 4 t) h.val (M1 (k0_pay49 (F := Ideal)) h.val) (M1 (k0_pay50 (F := Ideal)) h.val) 8 :=
  Fin.forall_fin_two.mpr ⟨AL_0 m c t h0 h1, AL_1 m c t h0 h1⟩

/-- A head's running weighted sum after the first point of a row. -/
theorem AA (t : Fin cfg0.N) (h0 : t.val % 4 = 0) (h1 : ¬t.val % 4 = 3) : ∀ h : Fin 2,
    A1 (outsAt0 m c t.val t.isLt).2.2.2.2.2.2.2 h.val = aC (iblk m c 0 t) (iblk m c 3 t) (iblk m c 4 t) (iblk m c 5 t) (iblk m c 6 t) h.val (M1 (k0_pay49 (F := Ideal)) h.val) (A1 (k0_pay51 (F := Ideal)) h.val) 8 :=
  Fin.forall_fin_two.mpr ⟨AA_0 m c t h0 h1, AA_1 m c t h0 h1⟩

/-- A head's running maximum after the middle point of a row. -/
theorem BM (t : Fin cfg0.N) (h0 : ¬t.val % 4 = 0) (h1 : ¬t.val % 4 = 3) : ∀ h : Fin 2,
    M1 (outsAt0 m c t.val t.isLt).2.2.2.2.2.1 h.val = mC (iblk m c 0 t) (iblk m c 3 t) (iblk m c 4 t) h.val (M1 (outsAt0 m c (t.val - 1) (Nat.lt_of_le_of_lt (Nat.sub_le _ _) t.isLt)).2.2.2.2.2.1 h.val) 8 :=
  Fin.forall_fin_two.mpr ⟨BM_0 m c t h0 h1, BM_1 m c t h0 h1⟩

/-- A head's running denominator after the middle point of a row. -/
theorem BL (t : Fin cfg0.N) (h0 : ¬t.val % 4 = 0) (h1 : ¬t.val % 4 = 3) : ∀ h : Fin 2,
    M1 (outsAt0 m c t.val t.isLt).2.2.2.2.2.2.1 h.val = lC (iblk m c 0 t) (iblk m c 3 t) (iblk m c 4 t) h.val (M1 (outsAt0 m c (t.val - 1) (Nat.lt_of_le_of_lt (Nat.sub_le _ _) t.isLt)).2.2.2.2.2.1 h.val) (M1 (outsAt0 m c (t.val - 1) (Nat.lt_of_le_of_lt (Nat.sub_le _ _) t.isLt)).2.2.2.2.2.2.1 h.val) 8 :=
  Fin.forall_fin_two.mpr ⟨BL_0 m c t h0 h1, BL_1 m c t h0 h1⟩

/-- A head's running weighted sum after the middle point of a row. -/
theorem BA (t : Fin cfg0.N) (h0 : ¬t.val % 4 = 0) (h1 : ¬t.val % 4 = 3) : ∀ h : Fin 2,
    A1 (outsAt0 m c t.val t.isLt).2.2.2.2.2.2.2 h.val = aC (iblk m c 0 t) (iblk m c 3 t) (iblk m c 4 t) (iblk m c 5 t) (iblk m c 6 t) h.val (M1 (outsAt0 m c (t.val - 1) (Nat.lt_of_le_of_lt (Nat.sub_le _ _) t.isLt)).2.2.2.2.2.1 h.val) (A1 (outsAt0 m c (t.val - 1) (Nat.lt_of_le_of_lt (Nat.sub_le _ _) t.isLt)).2.2.2.2.2.2.2 h.val) 8 :=
  Fin.forall_fin_two.mpr ⟨BA_0 m c t h0 h1, BA_1 m c t h0 h1⟩

/-- What a row's scratch holds after point `n`: the state of its first `4096 * (n % 4 + 1)` tokens. -/
def Carried (n : ℕ) (hn : n < cfg0.N) (h : Fin 2) (r : Fin 64) : Prop :=
  OS (scr (qf m c (bt ⟨n, hn⟩) h r) (kf m c (bt ⟨n, hn⟩) h) (r.val / 16)) (vf m c (bt ⟨n, hn⟩) h) (4096 * (n % 4 + 1))
    (M1 (outsAt0 m c n hn).2.2.2.2.2.1 h.val (ix3 0 r 0)) (M1 (outsAt0 m c n hn).2.2.2.2.2.2.1 h.val (ix3 0 r 0))
    (fun d => A1 (outsAt0 m c n hn).2.2.2.2.2.2.2 h.val (ix3 0 r d))

/-- The first point of a row. -/
theorem carry_A (t : Fin cfg0.N) (h0 : t.val % 4 = 0) (h1 : ¬t.val % 4 = 3) (h : Fin 2) (r : Fin 64) :
    Carried m c t.val t.isLt h r := by
  have B := block m c t h r (M1 (k0_pay49 (F := Ideal)) h.val) (M1 (k0_pay50 (F := Ideal)) h.val) (A1 (k0_pay51 (F := Ideal)) h.val)
    (by
      rw [h0, i49, i50]
      simp only [i51]
      exact OS.zero _ _)
  unfold Carried
  rw [AM m c t h0 h1 h, AL m c t h0 h1 h, AA m c t h0 h1 h]
  exact B

/-- What the point before left is this batch element's state so far. -/
theorem before (t : Fin cfg0.N) (h0 : ¬t.val % 4 = 0) (h : Fin 2) (r : Fin 64)
    (H : Carried m c (t.val - 1) (Nat.lt_of_le_of_lt (Nat.sub_le _ _) t.isLt) h r) :
    OS (scr (qf m c (bt t) h r) (kf m c (bt t) h) (r.val / 16)) (vf m c (bt t) h) (4096 * (t.val % 4))
      (M1 (outsAt0 m c (t.val - 1) (Nat.lt_of_le_of_lt (Nat.sub_le _ _) t.isLt)).2.2.2.2.2.1 h.val (ix3 0 r 0))
      (M1 (outsAt0 m c (t.val - 1) (Nat.lt_of_le_of_lt (Nat.sub_le _ _) t.isLt)).2.2.2.2.2.2.1 h.val (ix3 0 r 0))
      (fun d => A1 (outsAt0 m c (t.val - 1) (Nat.lt_of_le_of_lt (Nat.sub_le _ _) t.isLt)).2.2.2.2.2.2.2 h.val (ix3 0 r d)) := by
  have e1 : bt ⟨t.val - 1, Nat.lt_of_le_of_lt (Nat.sub_le _ _) t.isLt⟩ = bt t :=
    Fin.ext (show (t.val - 1) / 4 = t.val / 4 by omega)
  have e2 : (t.val - 1) % 4 + 1 = t.val % 4 := by omega
  unfold Carried at H
  rw [e1, e2] at H
  exact H

/-- A middle point of a row. -/
theorem carry_B (t : Fin cfg0.N) (h0 : ¬t.val % 4 = 0) (h1 : ¬t.val % 4 = 3) (h : Fin 2) (r : Fin 64)
    (H : Carried m c (t.val - 1) (Nat.lt_of_le_of_lt (Nat.sub_le _ _) t.isLt) h r) :
    Carried m c t.val t.isLt h r := by
  have B := block m c t h r _ _ _ (before m c t h0 h r H)
  unfold Carried
  rw [BM m c t h0 h1 h, BL m c t h0 h1 h, BA m c t h0 h1 h]
  exact B

/-- Every point short of a row's last leaves the state of the tokens read so far. -/
theorem carry (n : ℕ) (hn : n < cfg0.N) (h3 : ¬n % 4 = 3) (h : Fin 2) (r : Fin 64) : Carried m c n hn h r := by
  induction n with
  | zero => exact carry_A m c ⟨0, hn⟩ rfl h3 h r
  | succ n ih =>
    by_cases h0 : (n + 1) % 4 = 0
    · exact carry_A m c ⟨n + 1, hn⟩ h0 h3 h r
    · exact carry_B m c ⟨n + 1, hn⟩ h0 h3 h r (ih (Nat.lt_of_succ_lt hn) (by omega))

/-- A new token after its trip through the quantiser. -/
theorem tok_new (kc : Fin 16384 → Fin 128 → BitVec 8) (ks : Fin 16384 → EReal) (kn : Fin 4 → Fin 128 → EReal)
    (n : ℕ) (hn : n = 16384) (t : Fin 4) (d : Fin 128) :
    tok kc ks kn (n + t.val) d = sf (qcode (kn t) d) * qscale (kn t) := by
  subst hn
  have e : (⟨16384 + t.val - 16384, by omega⟩ : Fin 4) = t := Fin.ext (by simp only []; omega)
  rw [tok, dif_neg (by omega), dif_pos (by omega), e]

/-- The last point of a row: its block of cached tokens, the new tokens, and the quotient. -/
theorem last_y (t : Fin cfg0.N) (h3 : t.val % 4 = 3) (h : Fin 2) (r : Fin 64) (d : Fin 128)
    (mm l : Vec Ideal S1x64x1 .f32) (a : Vec Ideal S1x64x128 .f32)
    (H : OS (scr (qf m c (bt t) h r) (kf m c (bt t) h) (r.val / 16)) (vf m c (bt t) h) (4096 * (t.val % 4))
      (mm (ix3 0 r 0)) (l (ix3 0 r 0)) (fun d => a (ix3 0 r d))) :
    yT (aT (Q (iblk m c 0 t) h.val) (KN (iblk m c 1 t) h.val) (KN (iblk m c 2 t) h.val)
          (mC (iblk m c 0 t) (iblk m c 3 t) (iblk m c 4 t) h.val mm 8)
          (aC (iblk m c 0 t) (iblk m c 3 t) (iblk m c 4 t) (iblk m c 5 t) (iblk m c 6 t) h.val mm a 8))
        (lT (Q (iblk m c 0 t) h.val) (KN (iblk m c 1 t) h.val)
          (mC (iblk m c 0 t) (iblk m c 3 t) (iblk m c 4 t) h.val mm 8)
          (lC (iblk m c 0 t) (iblk m c 3 t) (iblk m c 4 t) h.val mm l 8)) (ix4 0 0 r d)
      = att (qf m c (bt t) h r) (kf m c (bt t) h) (vf m c (bt t) h) (r.val / 16) d := by
  have B := block m c t h r mm l a H
  have e : 4096 * (t.val % 4 + 1) = 16384 := by omega
  rw [e] at B
  have k1 : ∀ s : Fin 4, (fun d => KN (iblk m c 1 t) h.val (ix4 0 0 s d))
      = fun d => m ((c : Thread nD τ).loc main_arg1) (ix4 (bt t) s h d) := fun s => funext fun d => by
    rw [KN_at, iblk1]
  have k2 : ∀ s : Fin 4, (fun d => KN (iblk m c 2 t) h.val (ix4 0 0 s d))
      = fun d => m ((c : Thread nD τ).loc main_arg2) (ix4 (bt t) s h d) := fun s => funext fun d => by
    rw [KN_at, iblk2]
  have T := OS_tail _ _ _ (Q (iblk m c 0 t) h.val) (KN (iblk m c 1 t) h.val) (KN (iblk m c 2 t) h.val) _ _ _ r B
    (by
      intro s
      rw [st_at, scr, k1]
      have c0 : s.val ≤ r.val / 16 ↔ 16384 + s.val ≤ r.val / 16 + 16384 := by omega
      refine if_congr c0 (congrArg (· * _) (Finset.sum_congr rfl fun d _ => ?_)) rfl
      rw [Q_at, iblk0, kf, tok_new _ _ _ _ rfl]
      rfl)
    (by
      intro s d
      rw [qC_at, qS_at, k2, vf, tok_new _ _ _ _ rfl])
  rw [y_at]
  exact att_of_OS _ _ _ _ _ _ _ T d

/-- Head 0's part of an output block of shape S1x2x64x128. -/
theorem rd7_0 (X : Vec Ideal S1x2x64x128 .bf16) (r : Fin 64) (d : Fin 128) :
    X (ix4 0 0 r d) = View.ld X (Rect.unit (s := S1x2x64x128) ![0, 0, 0, 0] S1x1x64x128.size inb_S1x2x64x128_S1x1x64x128_0_0_0_0) (ix4 0 0 r d) := by
  pointwise []

/-- Head 1's part of an output block of shape S1x2x64x128. -/
theorem rd7_1 (X : Vec Ideal S1x2x64x128 .bf16) (r : Fin 64) (d : Fin 128) :
    X (ix4 0 1 r d) = View.ld X (Rect.unit (s := S1x2x64x128) ![0, 1, 0, 0] S1x1x64x128.size inb_S1x2x64x128_S1x1x64x128_0_1_0_0) (ix4 0 0 r d) := by
  pointwise []

/-- Head 0's part of an output block of shape S1x2x4x128. -/
theorem rd8_0 (X : Vec Ideal S1x2x4x128 .i8) (r : Fin 4) (d : Fin 128) :
    X (ix4 0 0 r d) = View.ld X (Rect.unit (s := S1x2x4x128) ![0, 0, 0, 0] S1x1x4x128.size inb_S1x2x4x128_S1x1x4x128_0_0_0_0) (ix4 0 0 r d) := by
  pointwise []

/-- Head 1's part of an output block of shape S1x2x4x128. -/
theorem rd8_1 (X : Vec Ideal S1x2x4x128 .i8) (r : Fin 4) (d : Fin 128) :
    X (ix4 0 1 r d) = View.ld X (Rect.unit (s := S1x2x4x128) ![0, 1, 0, 0] S1x1x4x128.size inb_S1x2x4x128_S1x1x4x128_0_1_0_0) (ix4 0 0 r d) := by
  pointwise []

/-- Head 0's part of an output block of shape S1x2x4x1. -/
theorem rd9_0 (X : Vec Ideal S1x2x4x1 .f32) (r : Fin 4) :
    X (ix4 0 0 r 0) = View.ld X (Rect.unit (s := S1x2x4x1) ![0, 0, 0, 0] S1x1x4x1.size inb_S1x2x4x1_S1x1x4x1_0_0_0_0) (ix4 0 0 r 0) := by
  pointwise []

/-- Head 1's part of an output block of shape S1x2x4x1. -/
theorem rd9_1 (X : Vec Ideal S1x2x4x1 .f32) (r : Fin 4) :
    X (ix4 0 1 r 0) = View.ld X (Rect.unit (s := S1x2x4x1) ![0, 1, 0, 0] S1x1x4x1.size inb_S1x2x4x1_S1x1x4x1_0_1_0_0) (ix4 0 0 r 0) := by
  pointwise []

/-- A code the kernel writes back, at an index. -/
theorem oC_at (kn : Vec Ideal S1x1x4x128 .bf16) (s : Fin 4) (d : Fin 128) :
    oC kn (ix4 0 0 s d) = qcode (fun d => kn (ix4 0 0 s d)) d := by
  rw [← qC_at]
  pointwise [oC, k0_pay8, qC]

/-- A scale the kernel writes back, at an index. -/
theorem oS_at (kn : Vec Ideal S1x1x4x128 .bf16) (s : Fin 4) :
    oS kn (ix4 0 0 s 0) = qscale (fun d => kn (ix4 0 0 s d)) := by
  rw [← qS_at]
  pointwise [oS, k0_pay13, qS]

/-- Head 0's part of output block 7 of a row's last point. -/
theorem raw7_0 (t : Fin cfg0.N) (h0 : ¬t.val % 4 = 0) (h1 : t.val % 4 = 3) (r : Fin 64) (d : Fin 128) :
    (outsAt0 m c t.val t.isLt).1 (ix4 0 0 r d) = yT (aT (Q (iblk m c 0 t) 0) (KN (iblk m c 1 t) 0) (KN (iblk m c 2 t) 0) (mC (iblk m c 0 t) (iblk m c 3 t) (iblk m c 4 t) 0 (M1 (outsAt0 m c (t.val - 1) (Nat.lt_of_le_of_lt (Nat.sub_le _ _) t.isLt)).2.2.2.2.2.1 0) 8) (aC (iblk m c 0 t) (iblk m c 3 t) (iblk m c 4 t) (iblk m c 5 t) (iblk m c 6 t) 0 (M1 (outsAt0 m c (t.val - 1) (Nat.lt_of_le_of_lt (Nat.sub_le _ _) t.isLt)).2.2.2.2.2.1 0) (A1 (outsAt0 m c (t.val - 1) (Nat.lt_of_le_of_lt (Nat.sub_le _ _) t.isLt)).2.2.2.2.2.2.2 0) 8)) (lT (Q (iblk m c 0 t) 0) (KN (iblk m c 1 t) 0) (mC (iblk m c 0 t) (iblk m c 3 t) (iblk m c 4 t) 0 (M1 (outsAt0 m c (t.val - 1) (Nat.lt_of_le_of_lt (Nat.sub_le _ _) t.isLt)).2.2.2.2.2.1 0) 8) (lC (iblk m c 0 t) (iblk m c 3 t) (iblk m c 4 t) 0 (M1 (outsAt0 m c (t.val - 1) (Nat.lt_of_le_of_lt (Nat.sub_le _ _) t.isLt)).2.2.2.2.2.1 0) (M1 (outsAt0 m c (t.val - 1) (Nat.lt_of_le_of_lt (Nat.sub_le _ _) t.isLt)).2.2.2.2.2.2.1 0) 8)) (ix4 0 0 r d) := by
  have e := @BodyC.O7_0 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  simp only [Memref.IsWhole.read_unread, wread0, wread1, wread2] at e
  rw [outsAt0_C m c t h0 h1]
  dsimp only
  refine (rd7_0 _ r d).trans ?_
  rw [e]

/-- Head 1's part of output block 7 of a row's last point. -/
theorem raw7_1 (t : Fin cfg0.N) (h0 : ¬t.val % 4 = 0) (h1 : t.val % 4 = 3) (r : Fin 64) (d : Fin 128) :
    (outsAt0 m c t.val t.isLt).1 (ix4 0 1 r d) = yT (aT (Q (iblk m c 0 t) 1) (KN (iblk m c 1 t) 1) (KN (iblk m c 2 t) 1) (mC (iblk m c 0 t) (iblk m c 3 t) (iblk m c 4 t) 1 (M1 (outsAt0 m c (t.val - 1) (Nat.lt_of_le_of_lt (Nat.sub_le _ _) t.isLt)).2.2.2.2.2.1 1) 8) (aC (iblk m c 0 t) (iblk m c 3 t) (iblk m c 4 t) (iblk m c 5 t) (iblk m c 6 t) 1 (M1 (outsAt0 m c (t.val - 1) (Nat.lt_of_le_of_lt (Nat.sub_le _ _) t.isLt)).2.2.2.2.2.1 1) (A1 (outsAt0 m c (t.val - 1) (Nat.lt_of_le_of_lt (Nat.sub_le _ _) t.isLt)).2.2.2.2.2.2.2 1) 8)) (lT (Q (iblk m c 0 t) 1) (KN (iblk m c 1 t) 1) (mC (iblk m c 0 t) (iblk m c 3 t) (iblk m c 4 t) 1 (M1 (outsAt0 m c (t.val - 1) (Nat.lt_of_le_of_lt (Nat.sub_le _ _) t.isLt)).2.2.2.2.2.1 1) 8) (lC (iblk m c 0 t) (iblk m c 3 t) (iblk m c 4 t) 1 (M1 (outsAt0 m c (t.val - 1) (Nat.lt_of_le_of_lt (Nat.sub_le _ _) t.isLt)).2.2.2.2.2.1 1) (M1 (outsAt0 m c (t.val - 1) (Nat.lt_of_le_of_lt (Nat.sub_le _ _) t.isLt)).2.2.2.2.2.2.1 1) 8)) (ix4 0 0 r d) := by
  have e := @BodyC.O7_1 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  simp only [Memref.IsWhole.read_unread, wread0, wread1, wread2] at e
  rw [outsAt0_C m c t h0 h1]
  dsimp only
  refine (rd7_1 _ r d).trans ?_
  rw [e]

/-- Output block 7 of a row's last point, at an index: the attention output. -/
theorem out7 (t : Fin cfg0.N) (h1 : t.val % 4 = 3) (h : Fin 2) (r : Fin 64) (d : Fin 128) :
    (outsAt0 m c t.val t.isLt).1 (ix4 0 h r d) = att (qf m c (bt t) h r) (kf m c (bt t) h) (vf m c (bt t) h) (r.val / 16) d := by
  have h0 : ¬t.val % 4 = 0 := by omega
  have e : (outsAt0 m c t.val t.isLt).1 (ix4 0 h r d) = yT (aT (Q (iblk m c 0 t) h.val) (KN (iblk m c 1 t) h.val) (KN (iblk m c 2 t) h.val) (mC (iblk m c 0 t) (iblk m c 3 t) (iblk m c 4 t) h.val (M1 (outsAt0 m c (t.val - 1) (Nat.lt_of_le_of_lt (Nat.sub_le _ _) t.isLt)).2.2.2.2.2.1 h.val) 8) (aC (iblk m c 0 t) (iblk m c 3 t) (iblk m c 4 t) (iblk m c 5 t) (iblk m c 6 t) h.val (M1 (outsAt0 m c (t.val - 1) (Nat.lt_of_le_of_lt (Nat.sub_le _ _) t.isLt)).2.2.2.2.2.1 h.val) (A1 (outsAt0 m c (t.val - 1) (Nat.lt_of_le_of_lt (Nat.sub_le _ _) t.isLt)).2.2.2.2.2.2.2 h.val) 8)) (lT (Q (iblk m c 0 t) h.val) (KN (iblk m c 1 t) h.val) (mC (iblk m c 0 t) (iblk m c 3 t) (iblk m c 4 t) h.val (M1 (outsAt0 m c (t.val - 1) (Nat.lt_of_le_of_lt (Nat.sub_le _ _) t.isLt)).2.2.2.2.2.1 h.val) 8) (lC (iblk m c 0 t) (iblk m c 3 t) (iblk m c 4 t) h.val (M1 (outsAt0 m c (t.val - 1) (Nat.lt_of_le_of_lt (Nat.sub_le _ _) t.isLt)).2.2.2.2.2.1 h.val) (M1 (outsAt0 m c (t.val - 1) (Nat.lt_of_le_of_lt (Nat.sub_le _ _) t.isLt)).2.2.2.2.2.2.1 h.val) 8)) (ix4 0 0 r d) := by
    revert h
    exact Fin.forall_fin_two.mpr ⟨raw7_0 m c t h0 h1 r d, raw7_1 m c t h0 h1 r d⟩
  exact e.trans (last_y m c t h1 h r d _ _ _ (before m c t h0 h r (carry m c _ _ (by omega) h r)))

/-- Head 0's part of output block 8 of a row's last point. -/
theorem raw8_0 (t : Fin cfg0.N) (h0 : ¬t.val % 4 = 0) (h1 : t.val % 4 = 3) (r : Fin 4) (d : Fin 128) :
    (outsAt0 m c t.val t.isLt).2.1 (ix4 0 0 r d) = oC (KN (iblk m c 1 t) 0) (ix4 0 0 r d) := by
  have e := @BodyC.O8_0 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  simp only [Memref.IsWhole.read_unread, wread0, wread1, wread2] at e
  rw [outsAt0_C m c t h0 h1]
  dsimp only
  refine (rd8_0 _ r d).trans ?_
  rw [e]

/-- Head 1's part of output block 8 of a row's last point. -/
theorem raw8_1 (t : Fin cfg0.N) (h0 : ¬t.val % 4 = 0) (h1 : t.val % 4 = 3) (r : Fin 4) (d : Fin 128) :
    (outsAt0 m c t.val t.isLt).2.1 (ix4 0 1 r d) = oC (KN (iblk m c 1 t) 1) (ix4 0 0 r d) := by
  have e := @BodyC.O8_1 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  simp only [Memref.IsWhole.read_unread, wread0, wread1, wread2] at e
  rw [outsAt0_C m c t h0 h1]
  dsimp only
  refine (rd8_1 _ r d).trans ?_
  rw [e]

/-- Output block 8 of a row's last point, at an index: the new keys' codes. -/
theorem out8 (t : Fin cfg0.N) (h1 : t.val % 4 = 3) (h : Fin 2) (r : Fin 4) (d : Fin 128) :
    (outsAt0 m c t.val t.isLt).2.1 (ix4 0 h r d) = qcode (fun d => m ((c : Thread nD τ).loc main_arg1) (ix4 (bt t) r h d)) d := by
  have h0 : ¬t.val % 4 = 0 := by omega
  have e : (outsAt0 m c t.val t.isLt).2.1 (ix4 0 h r d) = oC (KN (iblk m c 1 t) h.val) (ix4 0 0 r d) := by
    revert h
    exact Fin.forall_fin_two.mpr ⟨raw8_0 m c t h0 h1 r d, raw8_1 m c t h0 h1 r d⟩
  rw [e, oC_at]
  have k (d : Fin 128) : KN (iblk m c 1 t) h.val (ix4 0 0 r d) = _ := (KN_at (iblk m c 1 t) h r d).trans (iblk1 m c t h r d)
  simp only [k]

/-- Head 0's part of output block 9 of a row's last point. -/
theorem raw9_0 (t : Fin cfg0.N) (h0 : ¬t.val % 4 = 0) (h1 : t.val % 4 = 3) (r : Fin 4) :
    (outsAt0 m c t.val t.isLt).2.2.1 (ix4 0 0 r 0) = oS (KN (iblk m c 1 t) 0) (ix4 0 0 r 0) := by
  have e := @BodyC.O9_0 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  simp only [Memref.IsWhole.read_unread, wread0, wread1, wread2] at e
  rw [outsAt0_C m c t h0 h1]
  dsimp only
  refine (rd9_0 _ r).trans ?_
  rw [e]

/-- Head 1's part of output block 9 of a row's last point. -/
theorem raw9_1 (t : Fin cfg0.N) (h0 : ¬t.val % 4 = 0) (h1 : t.val % 4 = 3) (r : Fin 4) :
    (outsAt0 m c t.val t.isLt).2.2.1 (ix4 0 1 r 0) = oS (KN (iblk m c 1 t) 1) (ix4 0 0 r 0) := by
  have e := @BodyC.O9_1 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  simp only [Memref.IsWhole.read_unread, wread0, wread1, wread2] at e
  rw [outsAt0_C m c t h0 h1]
  dsimp only
  refine (rd9_1 _ r).trans ?_
  rw [e]

/-- Output block 9 of a row's last point, at an index: the new keys' scales. -/
theorem out9 (t : Fin cfg0.N) (h1 : t.val % 4 = 3) (h : Fin 2) (r : Fin 4) :
    (outsAt0 m c t.val t.isLt).2.2.1 (ix4 0 h r 0) = qscale (fun d => m ((c : Thread nD τ).loc main_arg1) (ix4 (bt t) r h d)) := by
  have h0 : ¬t.val % 4 = 0 := by omega
  have e : (outsAt0 m c t.val t.isLt).2.2.1 (ix4 0 h r 0) = oS (KN (iblk m c 1 t) h.val) (ix4 0 0 r 0) := by
    revert h
    exact Fin.forall_fin_two.mpr ⟨raw9_0 m c t h0 h1 r, raw9_1 m c t h0 h1 r⟩
  rw [e, oS_at]
  have k (d : Fin 128) : KN (iblk m c 1 t) h.val (ix4 0 0 r d) = _ := (KN_at (iblk m c 1 t) h r d).trans (iblk1 m c t h r d)
  simp only [k]

/-- Head 0's part of output block 10 of a row's last point. -/
theorem raw10_0 (t : Fin cfg0.N) (h0 : ¬t.val % 4 = 0) (h1 : t.val % 4 = 3) (r : Fin 4) (d : Fin 128) :
    (outsAt0 m c t.val t.isLt).2.2.2.1 (ix4 0 0 r d) = oC (KN (iblk m c 2 t) 0) (ix4 0 0 r d) := by
  have e := @BodyC.O10_0 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  simp only [Memref.IsWhole.read_unread, wread0, wread1, wread2] at e
  rw [outsAt0_C m c t h0 h1]
  dsimp only
  refine (rd8_0 _ r d).trans ?_
  rw [e]

/-- Head 1's part of output block 10 of a row's last point. -/
theorem raw10_1 (t : Fin cfg0.N) (h0 : ¬t.val % 4 = 0) (h1 : t.val % 4 = 3) (r : Fin 4) (d : Fin 128) :
    (outsAt0 m c t.val t.isLt).2.2.2.1 (ix4 0 1 r d) = oC (KN (iblk m c 2 t) 1) (ix4 0 0 r d) := by
  have e := @BodyC.O10_1 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  simp only [Memref.IsWhole.read_unread, wread0, wread1, wread2] at e
  rw [outsAt0_C m c t h0 h1]
  dsimp only
  refine (rd8_1 _ r d).trans ?_
  rw [e]

/-- Output block 10 of a row's last point, at an index: the new values' codes. -/
theorem out10 (t : Fin cfg0.N) (h1 : t.val % 4 = 3) (h : Fin 2) (r : Fin 4) (d : Fin 128) :
    (outsAt0 m c t.val t.isLt).2.2.2.1 (ix4 0 h r d) = qcode (fun d => m ((c : Thread nD τ).loc main_arg2) (ix4 (bt t) r h d)) d := by
  have h0 : ¬t.val % 4 = 0 := by omega
  have e : (outsAt0 m c t.val t.isLt).2.2.2.1 (ix4 0 h r d) = oC (KN (iblk m c 2 t) h.val) (ix4 0 0 r d) := by
    revert h
    exact Fin.forall_fin_two.mpr ⟨raw10_0 m c t h0 h1 r d, raw10_1 m c t h0 h1 r d⟩
  rw [e, oC_at]
  have k (d : Fin 128) : KN (iblk m c 2 t) h.val (ix4 0 0 r d) = _ := (KN_at (iblk m c 2 t) h r d).trans (iblk2 m c t h r d)
  simp only [k]

/-- Head 0's part of output block 11 of a row's last point. -/
theorem raw11_0 (t : Fin cfg0.N) (h0 : ¬t.val % 4 = 0) (h1 : t.val % 4 = 3) (r : Fin 4) :
    (outsAt0 m c t.val t.isLt).2.2.2.2.1 (ix4 0 0 r 0) = oS (KN (iblk m c 2 t) 0) (ix4 0 0 r 0) := by
  have e := @BodyC.O11_0 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  simp only [Memref.IsWhole.read_unread, wread0, wread1, wread2] at e
  rw [outsAt0_C m c t h0 h1]
  dsimp only
  refine (rd9_0 _ r).trans ?_
  rw [e]

/-- Head 1's part of output block 11 of a row's last point. -/
theorem raw11_1 (t : Fin cfg0.N) (h0 : ¬t.val % 4 = 0) (h1 : t.val % 4 = 3) (r : Fin 4) :
    (outsAt0 m c t.val t.isLt).2.2.2.2.1 (ix4 0 1 r 0) = oS (KN (iblk m c 2 t) 1) (ix4 0 0 r 0) := by
  have e := @BodyC.O11_1 Ideal _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  simp only [Memref.IsWhole.read_unread, wread0, wread1, wread2] at e
  rw [outsAt0_C m c t h0 h1]
  dsimp only
  refine (rd9_1 _ r).trans ?_
  rw [e]

/-- Output block 11 of a row's last point, at an index: the new values' scales. -/
theorem out11 (t : Fin cfg0.N) (h1 : t.val % 4 = 3) (h : Fin 2) (r : Fin 4) :
    (outsAt0 m c t.val t.isLt).2.2.2.2.1 (ix4 0 h r 0) = qscale (fun d => m ((c : Thread nD τ).loc main_arg2) (ix4 (bt t) r h d)) := by
  have h0 : ¬t.val % 4 = 0 := by omega
  have e : (outsAt0 m c t.val t.isLt).2.2.2.2.1 (ix4 0 h r 0) = oS (KN (iblk m c 2 t) h.val) (ix4 0 0 r 0) := by
    revert h
    exact Fin.forall_fin_two.mpr ⟨raw11_0 m c t h0 h1 r, raw11_1 m c t h0 h1 r⟩
  rw [e, oS_at]
  have k (d : Fin 128) : KN (iblk m c 2 t) h.val (ix4 0 0 r d) = _ := (KN_at (iblk m c 2 t) h r d).trans (iblk2 m c t h r d)
  simp only [k]

end Cert.KernelIdeal.Points

end
-- ==== Proof.Finals.lean ====
module
public import proofs.«01_k».proof.Proof.Carry
@[expose] public section

set_option maxRecDepth 16384

noncomputable section

namespace Cert.KernelIdeal.Finals

open Cert.KernelIdeal Cert.KernelIdeal.Gen Idealize.ShloMosaic Idealize.ShloMosaic.TcCoe Idealize.SL.Sem
open Idealize.ShloMosaic.Pipeline (Dat)
open Cert.KernelIdeal.Points Cert.KernelIdeal.Entry Cert.Spec

variable (m : (ℓ : Loc nD τ sig) → Buf (Elt Ideal) ℓ) (c : Dev nD)

/-- The array of attention outputs, heads and rows apart. -/
def G7 : Vec Ideal S64x2x64x128 .bf16 := fun i =>
  att (qf m c (i 0) (i 1) (i 2)) (kf m c (i 0) (i 1)) (vf m c (i 0) (i 1)) ((i 2).val / 16) (i 3)

/-- The array of attention outputs at an index. -/
theorem G7_at (b : Fin 64) (h : Fin 2) (r : Fin 64) (d : Fin 128) :
    G7 m c (ix4 b h r d) = att (qf m c b h r) (kf m c b h) (vf m c b h) (r.val / 16) d := rfl

/-- A row's last point leaves the attention outputs of its rows. -/
theorem place7 (t : Fin cfg0.N) (hm : t.val % 4 = 3) (h : Fin 2) (r : Fin 64) (d : Fin 128) (x : S1x2x64x128.Idx) (z : S64x2x64x128.Idx)
    (hx : x = ix4 0 h r d) (hz : z = ix4 (bt t) h r d) : (outsAt0 m c t.val t.isLt).1 x = G7 m c z := by
  subst hx hz
  rw [G7_at]
  exact out7 m c t hm h r d

/-- The array of the new keys' codes. -/
def G8 : Vec Ideal S64x2x4x128 .i8 := fun i =>
  qcode (fun d => m ((c : Thread nD τ).loc main_arg1) (ix4 (i 0) (i 2) (i 1) d)) (i 3)

/-- The array of the new keys' scales. -/
def G9 : Vec Ideal S64x2x4x1 .f32 := fun i =>
  qscale (fun d => m ((c : Thread nD τ).loc main_arg1) (ix4 (i 0) (i 2) (i 1) d))

/-- The array of the new values' codes. -/
def G10 : Vec Ideal S64x2x4x128 .i8 := fun i =>
  qcode (fun d => m ((c : Thread nD τ).loc main_arg2) (ix4 (i 0) (i 2) (i 1) d)) (i 3)

/-- The array of the new values' scales. -/
def G11 : Vec Ideal S64x2x4x1 .f32 := fun i =>
  qscale (fun d => m ((c : Thread nD τ).loc main_arg2) (ix4 (i 0) (i 2) (i 1) d))

/-- What a row's last point writes back to output array 0. -/
theorem flushed7 (t : Fin cfg0.N) (hf : (cfg0.win 7).flush t = true) :
    (dats m 0 c).flushed 7 t = ((cfg0.win 7).blk t).view.read (Elt Ideal) (G7 m c) := by
  show (cfg0.win 7).cut (grid0.coords t) ((dats m 0 c).after 7 t) = _
  rw [after0_7]
  have hm : t.val % 4 = 3 := (flush0_7 t).mp hf
  have e := (idx_out t).1
  have i0 : win0_7.index t (0 : Fin 4) = t.val / 4 := congrFun e 0
  have i1 : win0_7.index t (1 : Fin 4) = 0 := congrFun e 1
  have i2 : win0_7.index t (2 : Fin 4) = 0 := congrFun e 2
  have i3 : win0_7.index t (3 : Fin 4) = 0 := congrFun e 3
  funext y
  have hy0 : (y 0).val < 1 := (y 0).isLt
  have hb0 : (((cfg0.win 7).blk t).view.emb y 0).val = win0_7.index t (0 : Fin 4) * 1 + 1 * (y 0).val := rfl
  have hb1 : (((cfg0.win 7).blk t).view.emb y 1).val = win0_7.index t (1 : Fin 4) * 2 + 1 * (y 1).val := rfl
  have hb2 : (((cfg0.win 7).blk t).view.emb y 2).val = win0_7.index t (2 : Fin 4) * 64 + 1 * (y 2).val := rfl
  have hb3 : (((cfg0.win 7).blk t).view.emb y 3).val = win0_7.index t (3 : Fin 4) * 128 + 1 * (y 3).val := rfl
  have hx : (cfg0.win 7).xinj (grid0.coords t) y = ix4 0 (y 1) (y 2) (y 3) := by
    funext a; apply Fin.ext
    match a with
    | ⟨0, _⟩ => show (y 0).val = 0; omega
    | ⟨1, _⟩ => rfl
    | ⟨2, _⟩ => rfl
    | ⟨3, _⟩ => rfl
  have he : ((cfg0.win 7).blk t).view.emb y = ix4 (bt t) (y 1) (y 2) (y 3) := by
    funext a; apply Fin.ext
    match a with
    | ⟨0, _⟩ => show (((cfg0.win 7).blk t).view.emb y 0).val = t.val / 4; rw [hb0]; omega
    | ⟨1, _⟩ => show (((cfg0.win 7).blk t).view.emb y 1).val = (y 1).val; rw [hb1]; omega
    | ⟨2, _⟩ => show (((cfg0.win 7).blk t).view.emb y 2).val = (y 2).val; rw [hb2]; omega
    | ⟨3, _⟩ => show (((cfg0.win 7).blk t).view.emb y 3).val = (y 3).val; rw [hb3]; omega
  have hG : ∀ G : Vec Ideal S64x2x64x128 .bf16, (outsAt0 m c t.val t.isLt).1 ((cfg0.win 7).xinj (grid0.coords t) y) = G (((cfg0.win 7).blk t).view.emb y) →
      (cfg0.win 7).cut (grid0.coords t) ((outsAt0 m c t.val t.isLt).1) y = ((cfg0.win 7).blk t).view.read (Elt Ideal) G y := fun G h => h
  refine hG _ ?_
  exact place7 m c t hm _ _ _ _ _ hx he

/-- Every index of output array 0 is in the block a row's last point writes. -/
theorem covered7 (i : S64x2x64x128.Idx) : ∃ t : Fin cfg0.N, (cfg0.win 7).flush t = true ∧ i ∈ ((cfg0.win 7).blk t).view.set := by
  have hi0 : (i 0).val < 64 := (i 0).isLt
  have hi1 : (i 1).val < 2 := (i 1).isLt
  have hi2 : (i 2).val < 64 := (i 2).isLt
  have hi3 : (i 3).val < 128 := (i 3).isLt
  refine ⟨⟨4 * (i 0).val + 3, lt_of_lt_of_eq (by omega) N_0.symm⟩, (flush0_7 _).mpr (show (4 * (i 0).val + 3) % 4 = 3 by omega), ?_⟩
  generalize ht : (⟨4 * (i 0).val + 3, lt_of_lt_of_eq (by omega) N_0.symm⟩ : Fin cfg0.N) = t
  have htv : t.val = 4 * (i 0).val + 3 := by rw [← ht]
  have e := (idx_out t).1
  have i0 : win0_7.index t (0 : Fin 4) = t.val / 4 := congrFun e 0
  have i1 : win0_7.index t (1 : Fin 4) = 0 := congrFun e 1
  have i2 : win0_7.index t (2 : Fin 4) = 0 := congrFun e 2
  have i3 : win0_7.index t (3 : Fin 4) = 0 := congrFun e 3
  have hmem : i ∈ ((View.whole main_v9_0).slice (win0_7.rect t)).set := by
    rw [View.set_slice_whole, Rect.mem_set_unit]
    intro a
    match a with
    | ⟨0, _⟩ => show win0_7.index t (0 : Fin 4) * 1 ≤ (i 0).val ∧ (i 0).val < win0_7.index t (0 : Fin 4) * 1 + 1; omega
    | ⟨1, _⟩ => show win0_7.index t (1 : Fin 4) * 2 ≤ (i 1).val ∧ (i 1).val < win0_7.index t (1 : Fin 4) * 2 + 2; omega
    | ⟨2, _⟩ => show win0_7.index t (2 : Fin 4) * 64 ≤ (i 2).val ∧ (i 2).val < win0_7.index t (2 : Fin 4) * 64 + 64; omega
    | ⟨3, _⟩ => show win0_7.index t (3 : Fin 4) * 128 ≤ (i 3).val ∧ (i 3).val < win0_7.index t (3 : Fin 4) * 128 + 128; omega
  exact hmem

/-- Output array 0 after the run. -/
theorem final7 : (dats m 0 c).arrAt 7 cfg0.N = G7 m c :=
  (dats m 0 c).arrAt_eq_of_cover 7 _ (fun t hf => flushed7 m c t hf) (fun i => covered7 i)

/-- What a row's last point writes back to output array 1. -/
theorem flushed8 (t : Fin cfg0.N) (hf : (cfg0.win 8).flush t = true) :
    (dats m 0 c).flushed 8 t = ((cfg0.win 8).blk t).view.read (Elt Ideal) (G8 m c) := by
  show (cfg0.win 8).cut (grid0.coords t) ((dats m 0 c).after 8 t) = _
  rw [after0_8]
  have hm : t.val % 4 = 3 := (flush0_8 t).mp hf
  have e := (idx_out t).2.1
  have i0 : win0_8.index t (0 : Fin 4) = t.val / 4 := congrFun e 0
  have i1 : win0_8.index t (1 : Fin 4) = 0 := congrFun e 1
  have i2 : win0_8.index t (2 : Fin 4) = 0 := congrFun e 2
  have i3 : win0_8.index t (3 : Fin 4) = 0 := congrFun e 3
  funext y
  have hy0 : (y 0).val < 1 := (y 0).isLt
  have hb0 : (((cfg0.win 8).blk t).view.emb y 0).val = win0_8.index t (0 : Fin 4) * 1 + 1 * (y 0).val := rfl
  have hb1 : (((cfg0.win 8).blk t).view.emb y 1).val = win0_8.index t (1 : Fin 4) * 2 + 1 * (y 1).val := rfl
  have hb2 : (((cfg0.win 8).blk t).view.emb y 2).val = win0_8.index t (2 : Fin 4) * 4 + 1 * (y 2).val := rfl
  have hb3 : (((cfg0.win 8).blk t).view.emb y 3).val = win0_8.index t (3 : Fin 4) * 128 + 1 * (y 3).val := rfl
  have hx : (cfg0.win 8).xinj (grid0.coords t) y = ix4 0 (y 1) (y 2) (y 3) := by
    funext a; apply Fin.ext
    match a with
    | ⟨0, _⟩ => show (y 0).val = 0; omega
    | ⟨1, _⟩ => rfl
    | ⟨2, _⟩ => rfl
    | ⟨3, _⟩ => rfl
  have he : ((cfg0.win 8).blk t).view.emb y = ix4 (bt t) (y 1) (y 2) (y 3) := by
    funext a; apply Fin.ext
    match a with
    | ⟨0, _⟩ => show (((cfg0.win 8).blk t).view.emb y 0).val = t.val / 4; rw [hb0]; omega
    | ⟨1, _⟩ => show (((cfg0.win 8).blk t).view.emb y 1).val = (y 1).val; rw [hb1]; omega
    | ⟨2, _⟩ => show (((cfg0.win 8).blk t).view.emb y 2).val = (y 2).val; rw [hb2]; omega
    | ⟨3, _⟩ => show (((cfg0.win 8).blk t).view.emb y 3).val = (y 3).val; rw [hb3]; omega
  have hG : ∀ G : Vec Ideal S64x2x4x128 .i8, (outsAt0 m c t.val t.isLt).2.1 ((cfg0.win 8).xinj (grid0.coords t) y) = G (((cfg0.win 8).blk t).view.emb y) →
      (cfg0.win 8).cut (grid0.coords t) ((outsAt0 m c t.val t.isLt).2.1) y = ((cfg0.win 8).blk t).view.read (Elt Ideal) G y := fun G h => h
  refine hG _ ?_
  rw [hx, he]
  exact out8 m c t hm (y 1) (y 2) (y 3)

/-- Every index of output array 1 is in the block a row's last point writes. -/
theorem covered8 (i : S64x2x4x128.Idx) : ∃ t : Fin cfg0.N, (cfg0.win 8).flush t = true ∧ i ∈ ((cfg0.win 8).blk t).view.set := by
  have hi0 : (i 0).val < 64 := (i 0).isLt
  have hi1 : (i 1).val < 2 := (i 1).isLt
  have hi2 : (i 2).val < 4 := (i 2).isLt
  have hi3 : (i 3).val < 128 := (i 3).isLt
  refine ⟨⟨4 * (i 0).val + 3, lt_of_lt_of_eq (by omega) N_0.symm⟩, (flush0_8 _).mpr (show (4 * (i 0).val + 3) % 4 = 3 by omega), ?_⟩
  generalize ht : (⟨4 * (i 0).val + 3, lt_of_lt_of_eq (by omega) N_0.symm⟩ : Fin cfg0.N) = t
  have htv : t.val = 4 * (i 0).val + 3 := by rw [← ht]
  have e := (idx_out t).2.1
  have i0 : win0_8.index t (0 : Fin 4) = t.val / 4 := congrFun e 0
  have i1 : win0_8.index t (1 : Fin 4) = 0 := congrFun e 1
  have i2 : win0_8.index t (2 : Fin 4) = 0 := congrFun e 2
  have i3 : win0_8.index t (3 : Fin 4) = 0 := congrFun e 3
  have hmem : i ∈ ((View.whole main_v9_1).slice (win0_8.rect t)).set := by
    rw [View.set_slice_whole, Rect.mem_set_unit]
    intro a
    match a with
    | ⟨0, _⟩ => show win0_8.index t (0 : Fin 4) * 1 ≤ (i 0).val ∧ (i 0).val < win0_8.index t (0 : Fin 4) * 1 + 1; omega
    | ⟨1, _⟩ => show win0_8.index t (1 : Fin 4) * 2 ≤ (i 1).val ∧ (i 1).val < win0_8.index t (1 : Fin 4) * 2 + 2; omega
    | ⟨2, _⟩ => show win0_8.index t (2 : Fin 4) * 4 ≤ (i 2).val ∧ (i 2).val < win0_8.index t (2 : Fin 4) * 4 + 4; omega
    | ⟨3, _⟩ => show win0_8.index t (3 : Fin 4) * 128 ≤ (i 3).val ∧ (i 3).val < win0_8.index t (3 : Fin 4) * 128 + 128; omega
  exact hmem

/-- Output array 1 after the run. -/
theorem final8 : (dats m 0 c).arrAt 8 cfg0.N = G8 m c :=
  (dats m 0 c).arrAt_eq_of_cover 8 _ (fun t hf => flushed8 m c t hf) (fun i => covered8 i)

/-- What a row's last point writes back to output array 2. -/
theorem flushed9 (t : Fin cfg0.N) (hf : (cfg0.win 9).flush t = true) :
    (dats m 0 c).flushed 9 t = ((cfg0.win 9).blk t).view.read (Elt Ideal) (G9 m c) := by
  show (cfg0.win 9).cut (grid0.coords t) ((dats m 0 c).after 9 t) = _
  rw [after0_9]
  have hm : t.val % 4 = 3 := (flush0_9 t).mp hf
  have e := (idx_out t).2.2.1
  have i0 : win0_9.index t (0 : Fin 4) = t.val / 4 := congrFun e 0
  have i1 : win0_9.index t (1 : Fin 4) = 0 := congrFun e 1
  have i2 : win0_9.index t (2 : Fin 4) = 0 := congrFun e 2
  have i3 : win0_9.index t (3 : Fin 4) = 0 := congrFun e 3
  funext y
  have hy0 : (y 0).val < 1 := (y 0).isLt
  have hy3 : (y 3).val < 1 := (y 3).isLt
  have hb0 : (((cfg0.win 9).blk t).view.emb y 0).val = win0_9.index t (0 : Fin 4) * 1 + 1 * (y 0).val := rfl
  have hb1 : (((cfg0.win 9).blk t).view.emb y 1).val = win0_9.index t (1 : Fin 4) * 2 + 1 * (y 1).val := rfl
  have hb2 : (((cfg0.win 9).blk t).view.emb y 2).val = win0_9.index t (2 : Fin 4) * 4 + 1 * (y 2).val := rfl
  have hb3 : (((cfg0.win 9).blk t).view.emb y 3).val = win0_9.index t (3 : Fin 4) * 1 + 1 * (y 3).val := rfl
  have hx : (cfg0.win 9).xinj (grid0.coords t) y = ix4 0 (y 1) (y 2) 0 := by
    funext a; apply Fin.ext
    match a with
    | ⟨0, _⟩ => show (y 0).val = 0; omega
    | ⟨1, _⟩ => rfl
    | ⟨2, _⟩ => rfl
    | ⟨3, _⟩ => show (y 3).val = 0; omega
  have he : ((cfg0.win 9).blk t).view.emb y = ix4 (bt t) (y 1) (y 2) 0 := by
    funext a; apply Fin.ext
    match a with
    | ⟨0, _⟩ => show (((cfg0.win 9).blk t).view.emb y 0).val = t.val / 4; rw [hb0]; omega
    | ⟨1, _⟩ => show (((cfg0.win 9).blk t).view.emb y 1).val = (y 1).val; rw [hb1]; omega
    | ⟨2, _⟩ => show (((cfg0.win 9).blk t).view.emb y 2).val = (y 2).val; rw [hb2]; omega
    | ⟨3, _⟩ => show (((cfg0.win 9).blk t).view.emb y 3).val = 0; rw [hb3]; omega
  have hG : ∀ G : Vec Ideal S64x2x4x1 .f32, (outsAt0 m c t.val t.isLt).2.2.1 ((cfg0.win 9).xinj (grid0.coords t) y) = G (((cfg0.win 9).blk t).view.emb y) →
      (cfg0.win 9).cut (grid0.coords t) ((outsAt0 m c t.val t.isLt).2.2.1) y = ((cfg0.win 9).blk t).view.read (Elt Ideal) G y := fun G h => h
  refine hG _ ?_
  rw [hx, he]
  exact out9 m c t hm (y 1) (y 2)

/-- Every index of output array 2 is in the block a row's last point writes. -/
theorem covered9 (i : S64x2x4x1.Idx) : ∃ t : Fin cfg0.N, (cfg0.win 9).flush t = true ∧ i ∈ ((cfg0.win 9).blk t).view.set := by
  have hi0 : (i 0).val < 64 := (i 0).isLt
  have hi1 : (i 1).val < 2 := (i 1).isLt
  have hi2 : (i 2).val < 4 := (i 2).isLt
  have hi3 : (i 3).val < 1 := (i 3).isLt
  refine ⟨⟨4 * (i 0).val + 3, lt_of_lt_of_eq (by omega) N_0.symm⟩, (flush0_9 _).mpr (show (4 * (i 0).val + 3) % 4 = 3 by omega), ?_⟩
  generalize ht : (⟨4 * (i 0).val + 3, lt_of_lt_of_eq (by omega) N_0.symm⟩ : Fin cfg0.N) = t
  have htv : t.val = 4 * (i 0).val + 3 := by rw [← ht]
  have e := (idx_out t).2.2.1
  have i0 : win0_9.index t (0 : Fin 4) = t.val / 4 := congrFun e 0
  have i1 : win0_9.index t (1 : Fin 4) = 0 := congrFun e 1
  have i2 : win0_9.index t (2 : Fin 4) = 0 := congrFun e 2
  have i3 : win0_9.index t (3 : Fin 4) = 0 := congrFun e 3
  have hmem : i ∈ ((View.whole main_v9_2).slice (win0_9.rect t)).set := by
    rw [View.set_slice_whole, Rect.mem_set_unit]
    intro a
    match a with
    | ⟨0, _⟩ => show win0_9.index t (0 : Fin 4) * 1 ≤ (i 0).val ∧ (i 0).val < win0_9.index t (0 : Fin 4) * 1 + 1; omega
    | ⟨1, _⟩ => show win0_9.index t (1 : Fin 4) * 2 ≤ (i 1).val ∧ (i 1).val < win0_9.index t (1 : Fin 4) * 2 + 2; omega
    | ⟨2, _⟩ => show win0_9.index t (2 : Fin 4) * 4 ≤ (i 2).val ∧ (i 2).val < win0_9.index t (2 : Fin 4) * 4 + 4; omega
    | ⟨3, _⟩ => show win0_9.index t (3 : Fin 4) * 1 ≤ (i 3).val ∧ (i 3).val < win0_9.index t (3 : Fin 4) * 1 + 1; omega
  exact hmem

/-- Output array 2 after the run. -/
theorem final9 : (dats m 0 c).arrAt 9 cfg0.N = G9 m c :=
  (dats m 0 c).arrAt_eq_of_cover 9 _ (fun t hf => flushed9 m c t hf) (fun i => covered9 i)

/-- What a row's last point writes back to output array 3. -/
theorem flushed10 (t : Fin cfg0.N) (hf : (cfg0.win 10).flush t = true) :
    (dats m 0 c).flushed 10 t = ((cfg0.win 10).blk t).view.read (Elt Ideal) (G10 m c) := by
  show (cfg0.win 10).cut (grid0.coords t) ((dats m 0 c).after 10 t) = _
  rw [after0_10]
  have hm : t.val % 4 = 3 := (flush0_10 t).mp hf
  have e := (idx_out t).2.2.2.1
  have i0 : win0_10.index t (0 : Fin 4) = t.val / 4 := congrFun e 0
  have i1 : win0_10.index t (1 : Fin 4) = 0 := congrFun e 1
  have i2 : win0_10.index t (2 : Fin 4) = 0 := congrFun e 2
  have i3 : win0_10.index t (3 : Fin 4) = 0 := congrFun e 3
  funext y
  have hy0 : (y 0).val < 1 := (y 0).isLt
  have hb0 : (((cfg0.win 10).blk t).view.emb y 0).val = win0_10.index t (0 : Fin 4) * 1 + 1 * (y 0).val := rfl
  have hb1 : (((cfg0.win 10).blk t).view.emb y 1).val = win0_10.index t (1 : Fin 4) * 2 + 1 * (y 1).val := rfl
  have hb2 : (((cfg0.win 10).blk t).view.emb y 2).val = win0_10.index t (2 : Fin 4) * 4 + 1 * (y 2).val := rfl
  have hb3 : (((cfg0.win 10).blk t).view.emb y 3).val = win0_10.index t (3 : Fin 4) * 128 + 1 * (y 3).val := rfl
  have hx : (cfg0.win 10).xinj (grid0.coords t) y = ix4 0 (y 1) (y 2) (y 3) := by
    funext a; apply Fin.ext
    match a with
    | ⟨0, _⟩ => show (y 0).val = 0; omega
    | ⟨1, _⟩ => rfl
    | ⟨2, _⟩ => rfl
    | ⟨3, _⟩ => rfl
  have he : ((cfg0.win 10).blk t).view.emb y = ix4 (bt t) (y 1) (y 2) (y 3) := by
    funext a; apply Fin.ext
    match a with
    | ⟨0, _⟩ => show (((cfg0.win 10).blk t).view.emb y 0).val = t.val / 4; rw [hb0]; omega
    | ⟨1, _⟩ => show (((cfg0.win 10).blk t).view.emb y 1).val = (y 1).val; rw [hb1]; omega
    | ⟨2, _⟩ => show (((cfg0.win 10).blk t).view.emb y 2).val = (y 2).val; rw [hb2]; omega
    | ⟨3, _⟩ => show (((cfg0.win 10).blk t).view.emb y 3).val = (y 3).val; rw [hb3]; omega
  have hG : ∀ G : Vec Ideal S64x2x4x128 .i8, (outsAt0 m c t.val t.isLt).2.2.2.1 ((cfg0.win 10).xinj (grid0.coords t) y) = G (((cfg0.win 10).blk t).view.emb y) →
      (cfg0.win 10).cut (grid0.coords t) ((outsAt0 m c t.val t.isLt).2.2.2.1) y = ((cfg0.win 10).blk t).view.read (Elt Ideal) G y := fun G h => h
  refine hG _ ?_
  rw [hx, he]
  exact out10 m c t hm (y 1) (y 2) (y 3)

/-- Every index of output array 3 is in the block a row's last point writes. -/
theorem covered10 (i : S64x2x4x128.Idx) : ∃ t : Fin cfg0.N, (cfg0.win 10).flush t = true ∧ i ∈ ((cfg0.win 10).blk t).view.set := by
  have hi0 : (i 0).val < 64 := (i 0).isLt
  have hi1 : (i 1).val < 2 := (i 1).isLt
  have hi2 : (i 2).val < 4 := (i 2).isLt
  have hi3 : (i 3).val < 128 := (i 3).isLt
  refine ⟨⟨4 * (i 0).val + 3, lt_of_lt_of_eq (by omega) N_0.symm⟩, (flush0_10 _).mpr (show (4 * (i 0).val + 3) % 4 = 3 by omega), ?_⟩
  generalize ht : (⟨4 * (i 0).val + 3, lt_of_lt_of_eq (by omega) N_0.symm⟩ : Fin cfg0.N) = t
  have htv : t.val = 4 * (i 0).val + 3 := by rw [← ht]
  have e := (idx_out t).2.2.2.1
  have i0 : win0_10.index t (0 : Fin 4) = t.val / 4 := congrFun e 0
  have i1 : win0_10.index t (1 : Fin 4) = 0 := congrFun e 1
  have i2 : win0_10.index t (2 : Fin 4) = 0 := congrFun e 2
  have i3 : win0_10.index t (3 : Fin 4) = 0 := congrFun e 3
  have hmem : i ∈ ((View.whole main_v9_3).slice (win0_10.rect t)).set := by
    rw [View.set_slice_whole, Rect.mem_set_unit]
    intro a
    match a with
    | ⟨0, _⟩ => show win0_10.index t (0 : Fin 4) * 1 ≤ (i 0).val ∧ (i 0).val < win0_10.index t (0 : Fin 4) * 1 + 1; omega
    | ⟨1, _⟩ => show win0_10.index t (1 : Fin 4) * 2 ≤ (i 1).val ∧ (i 1).val < win0_10.index t (1 : Fin 4) * 2 + 2; omega
    | ⟨2, _⟩ => show win0_10.index t (2 : Fin 4) * 4 ≤ (i 2).val ∧ (i 2).val < win0_10.index t (2 : Fin 4) * 4 + 4; omega
    | ⟨3, _⟩ => show win0_10.index t (3 : Fin 4) * 128 ≤ (i 3).val ∧ (i 3).val < win0_10.index t (3 : Fin 4) * 128 + 128; omega
  exact hmem

/-- Output array 3 after the run. -/
theorem final10 : (dats m 0 c).arrAt 10 cfg0.N = G10 m c :=
  (dats m 0 c).arrAt_eq_of_cover 10 _ (fun t hf => flushed10 m c t hf) (fun i => covered10 i)

/-- What a row's last point writes back to output array 4. -/
theorem flushed11 (t : Fin cfg0.N) (hf : (cfg0.win 11).flush t = true) :
    (dats m 0 c).flushed 11 t = ((cfg0.win 11).blk t).view.read (Elt Ideal) (G11 m c) := by
  show (cfg0.win 11).cut (grid0.coords t) ((dats m 0 c).after 11 t) = _
  rw [after0_11]
  have hm : t.val % 4 = 3 := (flush0_11 t).mp hf
  have e := (idx_out t).2.2.2.2
  have i0 : win0_11.index t (0 : Fin 4) = t.val / 4 := congrFun e 0
  have i1 : win0_11.index t (1 : Fin 4) = 0 := congrFun e 1
  have i2 : win0_11.index t (2 : Fin 4) = 0 := congrFun e 2
  have i3 : win0_11.index t (3 : Fin 4) = 0 := congrFun e 3
  funext y
  have hy0 : (y 0).val < 1 := (y 0).isLt
  have hy3 : (y 3).val < 1 := (y 3).isLt
  have hb0 : (((cfg0.win 11).blk t).view.emb y 0).val = win0_11.index t (0 : Fin 4) * 1 + 1 * (y 0).val := rfl
  have hb1 : (((cfg0.win 11).blk t).view.emb y 1).val = win0_11.index t (1 : Fin 4) * 2 + 1 * (y 1).val := rfl
  have hb2 : (((cfg0.win 11).blk t).view.emb y 2).val = win0_11.index t (2 : Fin 4) * 4 + 1 * (y 2).val := rfl
  have hb3 : (((cfg0.win 11).blk t).view.emb y 3).val = win0_11.index t (3 : Fin 4) * 1 + 1 * (y 3).val := rfl
  have hx : (cfg0.win 11).xinj (grid0.coords t) y = ix4 0 (y 1) (y 2) 0 := by
    funext a; apply Fin.ext
    match a with
    | ⟨0, _⟩ => show (y 0).val = 0; omega
    | ⟨1, _⟩ => rfl
    | ⟨2, _⟩ => rfl
    | ⟨3, _⟩ => show (y 3).val = 0; omega
  have he : ((cfg0.win 11).blk t).view.emb y = ix4 (bt t) (y 1) (y 2) 0 := by
    funext a; apply Fin.ext
    match a with
    | ⟨0, _⟩ => show (((cfg0.win 11).blk t).view.emb y 0).val = t.val / 4; rw [hb0]; omega
    | ⟨1, _⟩ => show (((cfg0.win 11).blk t).view.emb y 1).val = (y 1).val; rw [hb1]; omega
    | ⟨2, _⟩ => show (((cfg0.win 11).blk t).view.emb y 2).val = (y 2).val; rw [hb2]; omega
    | ⟨3, _⟩ => show (((cfg0.win 11).blk t).view.emb y 3).val = 0; rw [hb3]; omega
  have hG : ∀ G : Vec Ideal S64x2x4x1 .f32, (outsAt0 m c t.val t.isLt).2.2.2.2.1 ((cfg0.win 11).xinj (grid0.coords t) y) = G (((cfg0.win 11).blk t).view.emb y) →
      (cfg0.win 11).cut (grid0.coords t) ((outsAt0 m c t.val t.isLt).2.2.2.2.1) y = ((cfg0.win 11).blk t).view.read (Elt Ideal) G y := fun G h => h
  refine hG _ ?_
  rw [hx, he]
  exact out11 m c t hm (y 1) (y 2)

/-- Every index of output array 4 is in the block a row's last point writes. -/
theorem covered11 (i : S64x2x4x1.Idx) : ∃ t : Fin cfg0.N, (cfg0.win 11).flush t = true ∧ i ∈ ((cfg0.win 11).blk t).view.set := by
  have hi0 : (i 0).val < 64 := (i 0).isLt
  have hi1 : (i 1).val < 2 := (i 1).isLt
  have hi2 : (i 2).val < 4 := (i 2).isLt
  have hi3 : (i 3).val < 1 := (i 3).isLt
  refine ⟨⟨4 * (i 0).val + 3, lt_of_lt_of_eq (by omega) N_0.symm⟩, (flush0_11 _).mpr (show (4 * (i 0).val + 3) % 4 = 3 by omega), ?_⟩
  generalize ht : (⟨4 * (i 0).val + 3, lt_of_lt_of_eq (by omega) N_0.symm⟩ : Fin cfg0.N) = t
  have htv : t.val = 4 * (i 0).val + 3 := by rw [← ht]
  have e := (idx_out t).2.2.2.2
  have i0 : win0_11.index t (0 : Fin 4) = t.val / 4 := congrFun e 0
  have i1 : win0_11.index t (1 : Fin 4) = 0 := congrFun e 1
  have i2 : win0_11.index t (2 : Fin 4) = 0 := congrFun e 2
  have i3 : win0_11.index t (3 : Fin 4) = 0 := congrFun e 3
  have hmem : i ∈ ((View.whole main_v9_4).slice (win0_11.rect t)).set := by
    rw [View.set_slice_whole, Rect.mem_set_unit]
    intro a
    match a with
    | ⟨0, _⟩ => show win0_11.index t (0 : Fin 4) * 1 ≤ (i 0).val ∧ (i 0).val < win0_11.index t (0 : Fin 4) * 1 + 1; omega
    | ⟨1, _⟩ => show win0_11.index t (1 : Fin 4) * 2 ≤ (i 1).val ∧ (i 1).val < win0_11.index t (1 : Fin 4) * 2 + 2; omega
    | ⟨2, _⟩ => show win0_11.index t (2 : Fin 4) * 4 ≤ (i 2).val ∧ (i 2).val < win0_11.index t (2 : Fin 4) * 4 + 4; omega
    | ⟨3, _⟩ => show win0_11.index t (3 : Fin 4) * 1 ≤ (i 3).val ∧ (i 3).val < win0_11.index t (3 : Fin 4) * 1 + 1; omega
  exact hmem

/-- Output array 4 after the run. -/
theorem final11 : (dats m 0 c).arrAt 11 cfg0.N = G11 m c :=
  (dats m 0 c).arrAt_eq_of_cover 11 _ (fun t hf => flushed11 m c t hf) (fun i => covered11 i)

/-- Distinct windows have distinct arrays. -/
theorem arr_inj : Function.Injective (Pipeline.arrRef spec0) := by decide

/-- Result 1 after the host's last lines. -/
theorem tail12 : Pipeline.afterTail₀ cfgs (dats m) 0 (V0 m) [hostOps1] c main_v12 = shapeCast S64x4x4096 (transpose S64x4x2x16x128 [0, 2, 1, 3, 4] (shapeCast S64x2x4x16x128 (G7 m c) shapeCasts_S64x2x64x128_S64x2x4x16x128) transposes_S64x2x4x16x128_S64x4x2x16x128_0_2_1_3_4) shapeCasts_S64x4x2x16x128_S64x4x4096 := by
  show StableHlo.after hostOps1 _ (Proc.devRef .tc main_v12) = _
  after_results
  rw [show Pipeline.withArrays _ _ _ _ (Proc.devRef .tc main_v9_0) = _ from Pipeline.withArrays_arr spec0 arr_inj c (V0 m c) (fun w => (dats m 0 c).arrAt w cfg0.N) 7, final7]
  rfl

/-- Result 1 at an index. -/
theorem res12 (b : Fin 64) (s : Fin 4) (h : Fin 2) (g : Fin 16) (d : Fin 128) :
    Pipeline.afterTail₀ cfgs (dats m) 0 (V0 m) [hostOps1] c main_v12 (ix3 b s ⟨h.val * 2048 + g.val * 128 + d.val, by omega⟩)
      = att (fun d => m ((c : Thread nD τ).loc main_arg0) (ix3 b s ⟨h.val * 2048 + g.val * 128 + d.val, by omega⟩))
          (kf m c b h) (vf m c b h) s.val d := by
  have e : ∀ G : Vec Ideal S64x2x64x128 .bf16, shapeCast S64x4x4096 (transpose S64x4x2x16x128 [0, 2, 1, 3, 4] (shapeCast S64x2x4x16x128 G shapeCasts_S64x2x64x128_S64x2x4x16x128) transposes_S64x2x4x16x128_S64x4x2x16x128_0_2_1_3_4) shapeCasts_S64x4x2x16x128_S64x4x4096 (ix3 b s ⟨h.val * 2048 + g.val * 128 + d.val, by omega⟩)
      = G (ix4 b h ⟨s.val * 16 + g.val, by omega⟩ d) := by
    intro G
    pointwise []
  rw [tail12, e, G7_at]
  have e1 : (s.val * 16 + g.val) / 16 = s.val := by omega
  have e2 : (s.val * 16 + g.val) % 16 = g.val := by omega
  have q : qf m c b h ⟨s.val * 16 + g.val, by omega⟩ = fun d => m ((c : Thread nD τ).loc main_arg0) (ix3 b s ⟨h.val * 2048 + g.val * 128 + d.val, by omega⟩) := by
    funext d
    unfold qf
    refine congrArg₂ (fun i j => m ((c : Thread nD τ).loc main_arg0) (ix3 b i j)) (Fin.ext e1) (Fin.ext ?_)
    show h.val * 2048 + (s.val * 16 + g.val) % 16 * 128 + d.val = _
    rw [e2]
  rw [q]
  exact congrArg (fun p => att _ (kf m c b h) (vf m c b h) p d) e1

/-- Result 2 after the host's last lines. -/
theorem tail13 : Pipeline.afterTail₀ cfgs (dats m) 0 (V0 m) [hostOps1] c main_v13 = transpose S64x4x2x128 [0, 2, 1, 3] (G8 m c) transposes_S64x2x4x128_S64x4x2x128_0_2_1_3 := by
  show StableHlo.after hostOps1 _ (Proc.devRef .tc main_v13) = _
  after_results
  rw [show Pipeline.withArrays _ _ _ _ (Proc.devRef .tc main_v9_1) = _ from Pipeline.withArrays_arr spec0 arr_inj c (V0 m c) (fun w => (dats m 0 c).arrAt w cfg0.N) 8, final8]

/-- Result 2 at an index. -/
theorem res13 (b : Fin 64) (s : Fin 4) (h : Fin 2) (d : Fin 128) :
    Pipeline.afterTail₀ cfgs (dats m) 0 (V0 m) [hostOps1] c main_v13 (ix4 b s h d)
      = qcode (fun d => m ((c : Thread nD τ).loc main_arg1) (ix4 b s h d)) d := by
  rw [tail13]
  pointwise [G8]

/-- Result 3 after the host's last lines. -/
theorem tail15 : Pipeline.afterTail₀ cfgs (dats m) 0 (V0 m) [hostOps1] c main_v15 = transpose S64x4x2 [0, 2, 1] (shapeCast S64x2x4 (G9 m c) shapeCasts_S64x2x4x1_S64x2x4) transposes_S64x2x4_S64x4x2_0_2_1 := by
  show StableHlo.after hostOps1 _ (Proc.devRef .tc main_v15) = _
  after_results
  rw [show Pipeline.withArrays _ _ _ _ (Proc.devRef .tc main_v9_2) = _ from Pipeline.withArrays_arr spec0 arr_inj c (V0 m c) (fun w => (dats m 0 c).arrAt w cfg0.N) 9, final9]
  rfl

/-- Result 3 at an index. -/
theorem res15 (b : Fin 64) (s : Fin 4) (h : Fin 2) :
    Pipeline.afterTail₀ cfgs (dats m) 0 (V0 m) [hostOps1] c main_v15 (ix3 b s h)
      = qscale (fun d => m ((c : Thread nD τ).loc main_arg1) (ix4 b s h d)) := by
  rw [tail15]
  pointwise [G9]

/-- Result 4 after the host's last lines. -/
theorem tail16 : Pipeline.afterTail₀ cfgs (dats m) 0 (V0 m) [hostOps1] c main_v16 = transpose S64x4x2x128 [0, 2, 1, 3] (G10 m c) transposes_S64x2x4x128_S64x4x2x128_0_2_1_3 := by
  show StableHlo.after hostOps1 _ (Proc.devRef .tc main_v16) = _
  after_results
  rw [show Pipeline.withArrays _ _ _ _ (Proc.devRef .tc main_v9_3) = _ from Pipeline.withArrays_arr spec0 arr_inj c (V0 m c) (fun w => (dats m 0 c).arrAt w cfg0.N) 10, final10]

/-- Result 4 at an index. -/
theorem res16 (b : Fin 64) (s : Fin 4) (h : Fin 2) (d : Fin 128) :
    Pipeline.afterTail₀ cfgs (dats m) 0 (V0 m) [hostOps1] c main_v16 (ix4 b s h d)
      = qcode (fun d => m ((c : Thread nD τ).loc main_arg2) (ix4 b s h d)) d := by
  rw [tail16]
  pointwise [G10]

/-- Result 5 after the host's last lines. -/
theorem tail18 : Pipeline.afterTail₀ cfgs (dats m) 0 (V0 m) [hostOps1] c main_v18 = transpose S64x4x2 [0, 2, 1] (shapeCast S64x2x4 (G11 m c) shapeCasts_S64x2x4x1_S64x2x4) transposes_S64x2x4_S64x4x2_0_2_1 := by
  show StableHlo.after hostOps1 _ (Proc.devRef .tc main_v18) = _
  after_results
  rw [show Pipeline.withArrays _ _ _ _ (Proc.devRef .tc main_v9_4) = _ from Pipeline.withArrays_arr spec0 arr_inj c (V0 m c) (fun w => (dats m 0 c).arrAt w cfg0.N) 11, final11]
  rfl

/-- Result 5 at an index. -/
theorem res18 (b : Fin 64) (s : Fin 4) (h : Fin 2) :
    Pipeline.afterTail₀ cfgs (dats m) 0 (V0 m) [hostOps1] c main_v18 (ix3 b s h)
      = qscale (fun d => m ((c : Thread nD τ).loc main_arg2) (ix4 b s h d)) := by
  rw [tail18]
  pointwise [G11]

end Cert.KernelIdeal.Finals

end
-- ==== Proof.Ref.lean ====
module
public import proofs.«01_k».proof.Proof.Gen.ReferenceIdeal.Read
public import proofs.«01_k».proof.Proof.Spec
@[expose] public section

set_option maxRecDepth 16384

noncomputable section

namespace Cert.ReferenceIdeal.Ref

open Idealize.ShloMosaic Cert.ReferenceIdeal Cert.ReferenceIdeal.Gen Cert.ReferenceIdeal.Read Cert.Online Cert.Spec

/-- The reference's scale of a new key token. -/
theorem scaleK (x1 : Vec Ideal S64x4x2x128 .bf16) (b : Fin 64) (t : Fin 4) (h : Fin 2) :
    val_main_v8 (F := Ideal) x1 (ix3 b t h) = qscale (fun d => x1 (ix4 b t h d)) := by
  pointwise [val_main_v8, val_main_v7, val_main_v6, val_main_v5, val_main_v4, val_main_v3, val_main_v2, val_main_v1, val_main_cst, val_main_cst_0,
    val_main_cst_1, val_main_cst_2, val_main_call0_v0, val_main_call0_v1, qscale]
  exact if_congr Iff.rfl rfl b1

/-- The reference's code of a new key token. -/
theorem codeK (x1 : Vec Ideal S64x4x2x128 .bf16) (b : Fin 64) (t : Fin 4) (h : Fin 2) (d : Fin 128) :
    val_main_v15 (F := Ideal) x1 (ix4 b t h d) = qcode (fun d => x1 (ix4 b t h d)) d := by
  rw [qcode, qnum, ← fptosi_narrow, ← scaleK]
  pointwise [val_main_v15, val_main_v14, val_main_v13, val_main_call2_v4, val_main_call2_v3, val_main_call2_v2, val_main_call2_v1, val_main_call2_v0,
    val_main_cst_3, val_main_cst_4, val_main_v12, val_main_v11, val_main_v10, val_main_v9, val_main_v1]
  rfl

/-- A code is read as the same number through a wide integer. -/
theorem sf_wide (b : BitVec 8) : FloatOps.sitofp (F := Ideal) FTy.bf16 (BitVec.signExtend 32 b) = sf b := by
  show (((BitVec.signExtend 32 b).toInt : ℝ) : EReal) = ((b.toInt : ℝ) : EReal)
  rw [BitVec.toInt_signExtend_of_le (by norm_num)]

/-- The reference's dequantised keys, the cached ones before the new ones. -/
theorem keys (x1 : Vec Ideal S64x4x2x128 .bf16) (x3 : Vec Ideal S64x16384x2x128 .i8) (x4 : Vec Ideal S64x16384x2 .f32)
    (b : Fin 64) (t : Fin 16388) (h : Fin 2) (d : Fin 128) :
    val_main_v49 (F := Ideal) x1 x3 x4 (ix4 b t h d)
      = tok (fun t d => x3 (ix4 b t h d)) (fun t => x4 (ix3 b t h)) (fun t d => x1 (ix4 b t h d)) t.val d := by
  simp only [tok, ← codeK, ← scaleK, ← sf_wide]
  pointwise [val_main_v49, val_main_v36, val_main_v35, val_main_v34, val_main_v33, val_main_v32, val_main_v31,
    val_main_v48, val_main_v47, val_main_v46, val_main_v45, val_main_v44, val_main_v43]
  refine dite_congr rfl (fun _ => rfl) (fun hn => ?_)
  rw [dif_pos (by omega)]

/-- The reference's dequantised values. -/
theorem vals (x2 : Vec Ideal S64x4x2x128 .bf16) (x5 : Vec Ideal S64x16384x2x128 .i8) (x6 : Vec Ideal S64x16384x2 .f32)
    (b : Fin 64) (t : Fin 16388) (h : Fin 2) (d : Fin 128) :
    val_main_v56 (F := Ideal) x2 x5 x6 (ix4 b t h d)
      = tok (fun t d => x5 (ix4 b t h d)) (fun t => x6 (ix3 b t h)) (fun t d => x2 (ix4 b t h d)) t.val d :=
  keys x2 x5 x6 b t h d

/-- The reference's scale of a new value token. -/
theorem scaleV (x2 : Vec Ideal S64x4x2x128 .bf16) (b : Fin 64) (t : Fin 4) (h : Fin 2) :
    val_main_v23 (F := Ideal) x2 (ix3 b t h) = qscale (fun d => x2 (ix4 b t h d)) := scaleK x2 b t h

/-- The reference's code of a new value token. -/
theorem codeV (x2 : Vec Ideal S64x4x2x128 .bf16) (b : Fin 64) (t : Fin 4) (h : Fin 2) (d : Fin 128) :
    val_main_v30 (F := Ideal) x2 (ix4 b t h d) = qcode (fun d => x2 (ix4 b t h d)) d := codeK x2 b t h d

/-- The reference's scaled dot product of a query and a token. -/
theorem dot (x0 : Vec Ideal S64x4x4096 .bf16) (x1 : Vec Ideal S64x4x2x128 .bf16) (x3 : Vec Ideal S64x16384x2x128 .i8)
    (x4 : Vec Ideal S64x16384x2 .f32) (b : Fin 64) (h : Fin 2) (g : Fin 16) (s : Fin 4) (t : Fin 16388) :
    val_main_v60 (F := Ideal) x0 x1 x3 x4 (ix5 b h g s t)
      = (∑ d : Fin 128, val_main_v0 x0 (ix5 b s h g d) * val_main_v49 x1 x3 x4 (ix4 b t h d)) * Ideal.ofBits FTy.f32 1035273459#32 := by
  pointwise [val_main_v60, val_main_v59, val_main_cst_11, val_main_v58, val_main_v57]
  exact congrArg (· * _) (Finset.sum_congr rfl fun _ _ => mul_comm _ _)

/-- The reference's mask: a token is read up to the query's position. -/
theorem mask (b : Fin 64) (h : Fin 2) (g : Fin 16) (s : Fin 4) (t : Fin 16388) :
    val_main_v65 (F := Ideal) (ix5 b h g s t) = if t.val ≤ s.val + 16384 then 1#1 else 0#1 := by
  pointwise [val_main_v65, val_main_v64, val_main_v63, val_main_v62, val_main_v61, val_main_c]
  have ht := t.isLt
  have hs := s.isLt
  have e1 : (BitVec.ofNat 32 t.val).toInt = t.val := by
    rw [BitVec.toInt_eq_toNat_of_lt] <;> simp only [BitVec.toNat_ofNat] <;> omega
  have e2 : (BitVec.ofNat 32 s.val + 16384#32).toInt = s.val + 16384 := by
    rw [BitVec.toInt_eq_toNat_of_lt] <;> simp only [BitVec.toNat_ofNat, BitVec.toNat_add] <;> omega
  show BitVec.ofBool (BitVec.sle (BitVec.ofNat 32 t.val) (BitVec.ofNat 32 s.val + 16384#32)) = _
  rw [BitVec.sle, e1, e2]
  by_cases h : t.val ≤ s.val + 16384
  · rw [if_pos h, decide_eq_true (by omega)]; rfl
  · rw [if_neg h, decide_eq_false (by omega)]; rfl

/-- A query of the reference. -/
theorem query (x0 : Vec Ideal S64x4x4096 .bf16) (b : Fin 64) (h : Fin 2) (g : Fin 16) (s : Fin 4) (d : Fin 128) :
    val_main_v0 (F := Ideal) x0 (ix5 b s h g d) = x0 (ix3 b s ⟨h.val * 2048 + g.val * 128 + d.val, by omega⟩) := by
  rw [val_main_v0_apply]
  have h1 := b.isLt; have h2 := s.isLt; have h3 := h.isLt; have h4 := g.isLt; have h5 := d.isLt
  refine congrArg x0 (funext fun a => ?_)
  match a with
  | ⟨0, _⟩ =>
    apply Fin.ext
    show ((((b.val * 4 + s.val) * 2 + h.val) * 16 + g.val) * 128 + d.val) / 16384 = b.val
    omega
  | ⟨1, _⟩ =>
    apply Fin.ext
    show ((((b.val * 4 + s.val) * 2 + h.val) * 16 + g.val) * 128 + d.val) / 4096 % 4 = s.val
    omega
  | ⟨2, _⟩ =>
    apply Fin.ext
    show ((((b.val * 4 + s.val) * 2 + h.val) * 16 + g.val) * 128 + d.val) % 4096 = h.val * 2048 + g.val * 128 + d.val
    omega

/-- The reference's row maximum. -/
theorem rowmax (x0 : Vec Ideal S64x4x4096 .bf16) (x1 : Vec Ideal S64x4x2x128 .bf16) (x3 : Vec Ideal S64x16384x2x128 .i8)
    (x4 : Vec Ideal S64x16384x2 .f32) (b : Fin 64) (h : Fin 2) (g : Fin 16) (s : Fin 4) :
    val_main_v67 (F := Ideal) x0 x1 x3 x4 (ix4 b h g s)
      = Finset.univ.fold max (Ideal.ofBits FTy.f32 4286578688#32) (fun t : Fin 16388 => val_main_v66 x0 x1 x3 x4 (ix5 b h g s t)) := by
  unfold val_main_v67
  generalize val_main_v66 (F := Ideal) x0 x1 x3 x4 = y
  rw [Host.reduce_eq_fold_single (FloatOps.maximumf (F := Ideal) (φ := .f32)) y _ reducesTo_S64x2x16x4x16388_S64x2x16x4_d4 (by decide) h_S_]
  refine Finset.fold_congr fun t _ => ?_
  refine congrArg y (funext fun a => Fin.ext ?_)
  match a with
  | ⟨0, _⟩ => rfl
  | ⟨1, _⟩ => rfl
  | ⟨2, _⟩ => rfl
  | ⟨3, _⟩ => rfl
  | ⟨4, _⟩ => rfl

/-- The reference's weight of a token, before the division. -/
theorem weight (x0 : Vec Ideal S64x4x4096 .bf16) (x1 : Vec Ideal S64x4x2x128 .bf16) (x3 : Vec Ideal S64x16384x2x128 .i8)
    (x4 : Vec Ideal S64x16384x2 .f32) (b : Fin 64) (h : Fin 2) (g : Fin 16) (s : Fin 4) (t : Fin 16388) :
    val_main_v71 (F := Ideal) x0 x1 x3 x4 (ix5 b h g s t)
      = Ideal.exp (val_main_v66 x0 x1 x3 x4 (ix5 b h g s t)
        - Finset.univ.fold max (Ideal.ofBits FTy.f32 4286578688#32) (fun t : Fin 16388 => val_main_v66 x0 x1 x3 x4 (ix5 b h g s t))) := by
  rw [val_main_v71_apply, val_main_v70_apply, val_main_v69_apply, val_main_v68_apply, ← rowmax]
  have e : idx_main_v68 (idx_main_v69 (ix5 b h g s t)) = ix4 b h g s := funext fun a => by
    match a with
    | ⟨0, _⟩ => rfl
    | ⟨1, _⟩ => rfl
    | ⟨2, _⟩ => rfl
    | ⟨3, _⟩ => rfl
  rw [e]
  generalize val_main_v67 (F := Ideal) x0 x1 x3 x4 (ix4 b h g s) = u
  generalize val_main_v66 (F := Ideal) x0 x1 x3 x4 (ix5 b h g s t) = w
  rfl

/-- The reference's sum of weights. -/
theorem total (x0 : Vec Ideal S64x4x4096 .bf16) (x1 : Vec Ideal S64x4x2x128 .bf16) (x3 : Vec Ideal S64x16384x2x128 .i8)
    (x4 : Vec Ideal S64x16384x2 .f32) (b : Fin 64) (h : Fin 2) (g : Fin 16) (s : Fin 4) (d : Fin 128) :
    val_main_v76 (F := Ideal) x0 x1 x3 x4 (ix5 b h g s d)
      = ∑ t : Fin 16388, val_main_v71 (F := Ideal) x0 x1 x3 x4 (ix5 b h g s t) := by
  rw [val_main_v76_apply, val_main_v75_apply, val_main_v72_apply]
  rw [show (val_main_cst_14 (F := Ideal) (Shape.Idx.first h_S_) : EReal) = 0 from b0, zero_add]
  refine Finset.sum_congr rfl fun t _ => congrArg (val_main_v71 (F := Ideal) x0 x1 x3 x4) (funext fun a => ?_)
  match a with
  | ⟨0, _⟩ => rfl
  | ⟨1, _⟩ => rfl
  | ⟨2, _⟩ => rfl
  | ⟨3, _⟩ => rfl
  | ⟨4, _⟩ => rfl

/-- The reference's weighted sum of values. -/
theorem weighted (x0 : Vec Ideal S64x4x4096 .bf16) (x1 x2 : Vec Ideal S64x4x2x128 .bf16) (x3 x5 : Vec Ideal S64x16384x2x128 .i8)
    (x4 x6 : Vec Ideal S64x16384x2 .f32) (b : Fin 64) (h : Fin 2) (g : Fin 16) (s : Fin 4) (d : Fin 128) :
    val_main_v74 (F := Ideal) x0 x1 x2 x3 x4 x5 x6 (ix5 b h g s d)
      = ∑ t : Fin 16388, val_main_v71 (F := Ideal) x0 x1 x3 x4 (ix5 b h g s t) * val_main_v56 (F := Ideal) x2 x5 x6 (ix4 b t h d) := by
  rw [val_main_v74_apply]
  refine Finset.sum_congr rfl fun t _ => ?_
  have e1 : lidx_main_v74 (ix5 b h g s d) t = ix5 b h g s t := funext fun a => by
    match a with
    | ⟨0, _⟩ => rfl
    | ⟨1, _⟩ => rfl
    | ⟨2, _⟩ => rfl
    | ⟨3, _⟩ => rfl
    | ⟨4, _⟩ => rfl
  have e2 : ridx_main_v74 (ix5 b h g s d) t = ix4 b t h d := funext fun a => by
    match a with
    | ⟨0, _⟩ => rfl
    | ⟨1, _⟩ => rfl
    | ⟨2, _⟩ => rfl
    | ⟨3, _⟩ => rfl
  rw [e1, e2, val_main_v73_apply]
  rfl

/-- A masked score of the reference. -/
theorem score (x0 : Vec Ideal S64x4x4096 .bf16) (x1 : Vec Ideal S64x4x2x128 .bf16) (x3 : Vec Ideal S64x16384x2x128 .i8)
    (x4 : Vec Ideal S64x16384x2 .f32) (b : Fin 64) (h : Fin 2) (g : Fin 16) (s : Fin 4) (t : Fin 16388) :
    val_main_v66 (F := Ideal) x0 x1 x3 x4 (ix5 b h g s t)
      = scr (fun d => x0 (ix3 b s ⟨h.val * 2048 + g.val * 128 + d.val, by omega⟩))
          (tok (fun t d => x3 (ix4 b t h d)) (fun t => x4 (ix3 b t h)) (fun t d => x1 (ix4 b t h d))) s.val t.val := by
  have e : val_main_v66 (F := Ideal) x0 x1 x3 x4 (ix5 b h g s t)
      = Scalar.select (val_main_v65 (F := Ideal) (ix5 b h g s t)) (val_main_v60 (F := Ideal) x0 x1 x3 x4 (ix5 b h g s t))
        (Ideal.ofBits FTy.f32 4286578688#32) := by
    rw [val_main_v66_apply, val_main_call6_v1_apply]
    rfl
  rw [e, mask, dot, scr]
  simp only [query, keys]
  by_cases ht : t.val ≤ s.val + 16384
  · rw [if_pos ht, if_pos ht]; rfl
  · rw [if_neg ht, if_neg ht, ninf]; rfl

/-- The reference's attention is the shared formula. -/
theorem attn_eq (x0 : Vec Ideal S64x4x4096 .bf16) (x1 x2 : Vec Ideal S64x4x2x128 .bf16) (x3 x5 : Vec Ideal S64x16384x2x128 .i8)
    (x4 x6 : Vec Ideal S64x16384x2 .f32) (b : Fin 64) (h : Fin 2) (g : Fin 16) (s : Fin 4) (d : Fin 128) :
    val_main_v77 (F := Ideal) x0 x1 x2 x3 x4 x5 x6 (ix5 b h g s d)
      = att (fun d => x0 (ix3 b s ⟨h.val * 2048 + g.val * 128 + d.val, by omega⟩))
          (tok (fun t d => x3 (ix4 b t h d)) (fun t => x4 (ix3 b t h)) (fun t d => x1 (ix4 b t h d)))
          (tok (fun t d => x5 (ix4 b t h d)) (fun t => x6 (ix3 b t h)) (fun t d => x2 (ix4 b t h d))) s.val d := by
  have e : val_main_v77 (F := Ideal) x0 x1 x2 x3 x4 x5 x6 (ix5 b h g s d)
      = Ideal.div (val_main_v74 (F := Ideal) x0 x1 x2 x3 x4 x5 x6 (ix5 b h g s d)) (val_main_v76 (F := Ideal) x0 x1 x3 x4 (ix5 b h g s d)) := by
    rw [val_main_v77_apply]
    generalize val_main_v74 (F := Ideal) x0 x1 x2 x3 x4 x5 x6 (ix5 b h g s d) = u
    generalize val_main_v76 (F := Ideal) x0 x1 x3 x4 (ix5 b h g s d) = w
    rfl
  rw [e, weighted, total, att]
  have w : ∀ t : Fin 16388, _ = _ := weight x0 x1 x3 x4 b h g s
  have hs := score x0 x1 x3 x4 b h g s
  simp only [hs, ninf] at w
  refine congrArg₂ Ideal.div (Finset.sum_congr rfl fun t _ => ?_) (Finset.sum_congr rfl fun t _ => w t)
  rw [w t, vals]

/-- The reference's first result, at an index written as head, group and component. -/
theorem y_eq (x0 : Vec Ideal S64x4x4096 .bf16) (x1 x2 : Vec Ideal S64x4x2x128 .bf16) (x3 x5 : Vec Ideal S64x16384x2x128 .i8)
    (x4 x6 : Vec Ideal S64x16384x2 .f32) (b : Fin 64) (h : Fin 2) (g : Fin 16) (s : Fin 4) (d : Fin 128) :
    val_main_v80 (F := Ideal) x0 x1 x2 x3 x4 x5 x6 (ix3 b s ⟨h.val * 2048 + g.val * 128 + d.val, by omega⟩)
      = att (fun d => x0 (ix3 b s ⟨h.val * 2048 + g.val * 128 + d.val, by omega⟩))
          (tok (fun t d => x3 (ix4 b t h d)) (fun t => x4 (ix3 b t h)) (fun t d => x1 (ix4 b t h d)))
          (tok (fun t d => x5 (ix4 b t h d)) (fun t => x6 (ix3 b t h)) (fun t d => x2 (ix4 b t h d))) s.val d := by
  rw [val_main_v80_apply, val_main_v79_apply, val_main_v78_apply, ← attn_eq]
  have h1 := b.isLt; have h2 := s.isLt; have h3 := h.isLt; have h4 := g.isLt; have h5 := d.isLt
  refine congrArg (val_main_v77 (F := Ideal) x0 x1 x2 x3 x4 x5 x6) (funext fun a => ?_)
  match a with
  | ⟨0, _⟩ =>
    apply Fin.ext
    show ((b.val * 4 + s.val) * 4096 + (h.val * 2048 + g.val * 128 + d.val)) / 16384 = b.val
    omega
  | ⟨1, _⟩ =>
    apply Fin.ext
    show ((b.val * 4 + s.val) * 4096 + (h.val * 2048 + g.val * 128 + d.val)) / 2048 % 2 = h.val
    omega
  | ⟨2, _⟩ =>
    apply Fin.ext
    show ((b.val * 4 + s.val) * 4096 + (h.val * 2048 + g.val * 128 + d.val)) / 128 % 16 = g.val
    omega
  | ⟨3, _⟩ =>
    apply Fin.ext
    show ((b.val * 4 + s.val) * 4096 + (h.val * 2048 + g.val * 128 + d.val)) / 4096 % 4 = s.val
    omega
  | ⟨4, _⟩ =>
    apply Fin.ext
    show ((b.val * 4 + s.val) * 4096 + (h.val * 2048 + g.val * 128 + d.val)) % 128 = d.val
    omega

end Cert.ReferenceIdeal.Ref

end
-- ==== Proof.Agree.lean ====
module
public import proofs.«01_k».proof.Proof.Finals
public import proofs.«01_k».proof.Proof.Ref
@[expose] public section

set_option maxRecDepth 16384

noncomputable section

namespace Cert.KernelIdeal.Agree

open Cert.KernelIdeal Cert.KernelIdeal.Gen Idealize.ShloMosaic Idealize.ShloMosaic.TcCoe
open Cert.ReferenceIdeal.Read Cert.ReferenceIdeal.Ref Cert.KernelIdeal.Finals

variable (m : (ℓ : Loc nD τ sig) → Buf (Elt Ideal) ℓ) (c : Dev nD)

/-- The kernel's attention output is the reference's. -/
theorem agree_y : val_main_v80 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6))
    = Pipeline.afterTail₀ cfgs (dats m) 0 (V0 m) [hostOps1] c main_v12 := by
  funext i
  obtain ⟨b, s, j, rfl⟩ : ∃ (b : Fin 64) (s : Fin 4) (j : Fin 4096), i = ix3 b s j :=
    ⟨i 0, i 1, i 2, funext fun a => match a with | ⟨0, _⟩ => rfl | ⟨1, _⟩ => rfl | ⟨2, _⟩ => rfl⟩
  obtain ⟨h, g, d, rfl⟩ : ∃ (h : Fin 2) (g : Fin 16) (d : Fin 128), j = ⟨h.val * 2048 + g.val * 128 + d.val, by omega⟩ :=
    ⟨⟨j.val / 2048, by omega⟩, ⟨j.val / 128 % 16, by omega⟩, ⟨j.val % 128, by omega⟩, Fin.ext (by
      show j.val = j.val / 2048 * 2048 + j.val / 128 % 16 * 128 + j.val % 128
      omega)⟩
  exact (Cert.ReferenceIdeal.Ref.y_eq _ _ _ _ _ _ _ b h g s d).trans (res12 m c b s h g d).symm

/-- The kernel's codes of the new keys are the reference's. -/
theorem agree_kc : val_main_v15 (F := Ideal) (m ((c : Thread nD τ).loc main_arg1))
    = Pipeline.afterTail₀ cfgs (dats m) 0 (V0 m) [hostOps1] c main_v13 := by
  funext i
  obtain ⟨b, s, h, d, rfl⟩ : ∃ (b : Fin 64) (s : Fin 4) (h : Fin 2) (d : Fin 128), i = ix4 b s h d :=
    ⟨i 0, i 1, i 2, i 3, funext fun a => match a with | ⟨0, _⟩ => rfl | ⟨1, _⟩ => rfl | ⟨2, _⟩ => rfl | ⟨3, _⟩ => rfl⟩
  exact (codeK _ b s h d).trans (res13 m c b s h d).symm

/-- The kernel's scales of the new keys are the reference's. -/
theorem agree_ks : val_main_v8 (F := Ideal) (m ((c : Thread nD τ).loc main_arg1))
    = Pipeline.afterTail₀ cfgs (dats m) 0 (V0 m) [hostOps1] c main_v15 := by
  funext i
  obtain ⟨b, s, h, rfl⟩ : ∃ (b : Fin 64) (s : Fin 4) (h : Fin 2), i = ix3 b s h :=
    ⟨i 0, i 1, i 2, funext fun a => match a with | ⟨0, _⟩ => rfl | ⟨1, _⟩ => rfl | ⟨2, _⟩ => rfl⟩
  exact (scaleK _ b s h).trans (res15 m c b s h).symm

/-- The kernel's codes of the new values are the reference's. -/
theorem agree_vc : val_main_v30 (F := Ideal) (m ((c : Thread nD τ).loc main_arg2))
    = Pipeline.afterTail₀ cfgs (dats m) 0 (V0 m) [hostOps1] c main_v16 := by
  funext i
  obtain ⟨b, s, h, d, rfl⟩ : ∃ (b : Fin 64) (s : Fin 4) (h : Fin 2) (d : Fin 128), i = ix4 b s h d :=
    ⟨i 0, i 1, i 2, i 3, funext fun a => match a with | ⟨0, _⟩ => rfl | ⟨1, _⟩ => rfl | ⟨2, _⟩ => rfl | ⟨3, _⟩ => rfl⟩
  exact (codeV _ b s h d).trans (res16 m c b s h d).symm

/-- The kernel's scales of the new values are the reference's. -/
theorem agree_vs : val_main_v23 (F := Ideal) (m ((c : Thread nD τ).loc main_arg2))
    = Pipeline.afterTail₀ cfgs (dats m) 0 (V0 m) [hostOps1] c main_v18 := by
  funext i
  obtain ⟨b, s, h, rfl⟩ : ∃ (b : Fin 64) (s : Fin 4) (h : Fin 2), i = ix3 b s h :=
    ⟨i 0, i 1, i 2, funext fun a => match a with | ⟨0, _⟩ => rfl | ⟨1, _⟩ => rfl | ⟨2, _⟩ => rfl⟩
  exact (scaleV _ b s h).trans (res18 m c b s h).symm

/-- The kernel's run: every result as the host's last lines leave it, and the arguments as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v12) = Pipeline.afterTail₀ cfgs (dats m) 0 (V0 m) [hostOps1] c main_v12
      ∧ r.2.mem ((c.tc : Thread nD τ).loc main_v13) = Pipeline.afterTail₀ cfgs (dats m) 0 (V0 m) [hostOps1] c main_v13
      ∧ r.2.mem ((c.tc : Thread nD τ).loc main_v15) = Pipeline.afterTail₀ cfgs (dats m) 0 (V0 m) [hostOps1] c main_v15
      ∧ r.2.mem ((c.tc : Thread nD τ).loc main_v16) = Pipeline.afterTail₀ cfgs (dats m) 0 (V0 m) [hostOps1] c main_v16
      ∧ r.2.mem ((c.tc : Thread nD τ).loc main_v18) = Pipeline.afterTail₀ cfgs (dats m) 0 (V0 m) [hostOps1] c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c).2 main_v12 (Pipeline.mem_restRefs_of main_v12 (by decide) (by decide)),
      (h c).2 main_v13 (Pipeline.mem_restRefs_of main_v13 (by decide) (by decide)),
      (h c).2 main_v15 (Pipeline.mem_restRefs_of main_v15 (by decide) (by decide)),
      (h c).2 main_v16 (Pipeline.mem_restRefs_of main_v16 (by decide) (by decide)),
      (h c).2 main_v18 (Pipeline.mem_restRefs_of main_v18 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference is a line of host operations: it ends, and leaves its arguments as they were. -/
theorem frame_reference : Cert.quiescent_ReferenceIdeal := by
  intro m ρ _
  have h := Cert.ReferenceIdeal.Value.run (F := Ideal) m ρ
  refine (θ_run Cert.ReferenceIdeal.defs _ _).mono (fun r h => ⟨fun c => ?_, sem_eq_zero_of_no_sems (by decide) r.2⟩) h
  have hc := h c
  simp only [and_assoc] at hc
  obtain ⟨_, _, _, _, _, hc⟩ := hc
  exact hc

/-- The kernel's results are the reference's, at exact arithmetic. -/
theorem algebraic : Cert.algebraic_KernelIdeal_ReferenceIdeal := by
  intro m ρ m' ρ' _ hagree
  refine ⟨_, _, _, _, _, Cert.KernelIdeal.Agree.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  obtain ⟨h0, h1, h2, h3, h4, hr⟩ := h c
  refine ⟨h0.trans ?_, h1.trans ?_, h2.trans ?_, h3.trans ?_, h4.trans ?_, hr⟩
  · rw [Cert.ReferenceIdeal.Read.val_main_v80_eq, a0, a1, a2, a3, a4, a5, a6]
    exact Cert.KernelIdeal.Agree.agree_y m c
  · rw [Cert.ReferenceIdeal.Read.val_main_v15_eq, a1]
    exact Cert.KernelIdeal.Agree.agree_kc m c
  · rw [Cert.ReferenceIdeal.Read.val_main_v8_eq, a1]
    exact Cert.KernelIdeal.Agree.agree_ks m c
  · rw [Cert.ReferenceIdeal.Read.val_main_v30_eq, a2]
    exact Cert.KernelIdeal.Agree.agree_vc m c
  · rw [Cert.ReferenceIdeal.Read.val_main_v23_eq, a2]
    exact Cert.KernelIdeal.Agree.agree_vs m c

/-- The five claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
